-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v10_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S32768x1024 : Shape := ⟨2, ![32768, 1024]⟩
abbrev S32768x7168 : Shape := ⟨2, ![32768, 7168]⟩
abbrev S16x2048x1024 : Shape := ⟨3, ![16, 2048, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S32768x1024 .bf16) (main_arg1 : FVec F S32768x1024 .bf16) (main_arg2 : FVec F S32768x7168 .bf16) (main_arg3 : FVec F S16x2048x1024 .f32) (main_arg4 : FVec F S1024x1024 .f32) (main_arg5 : FVec F S1024x1024 .f32) (main_arg6 : FVec F S1024x1024 .f32) (main_arg7 : FVec F S1024 .f32) (main_arg8 : FVec F S1024x16 .f32) : IVec S_ 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := Host.absf main_arg8
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S16x16x2048 : Shape := ⟨3, ![16, 16, 2048]⟩
abbrev S16x16x256x1024 : Shape := ⟨4, ![16, 16, 256, 1024]⟩
abbrev S16x1024x2048 : Shape := ⟨3, ![16, 1024, 2048]⟩
abbrev S16x2048x1024 : Shape := ⟨3, ![16, 2048, 1024]⟩
abbrev S16x16x1x2048 : Shape := ⟨4, ![16, 16, 1, 2048]⟩
abbrev S4x1x1x2048 : Shape := ⟨4, ![4, 1, 1, 2048]⟩
abbrev S4x1x256x1024 : Shape := ⟨4, ![4, 1, 256, 1024]⟩
abbrev S2x1024x2048 : Shape := ⟨3, ![2, 1024, 2048]⟩
abbrev S2x2048x1024 : Shape := ⟨3, ![2, 2048, 1024]⟩
abbrev S256x2048 : Shape := ⟨2, ![256, 2048]⟩
abbrev S512x1024 : Shape := ⟨2, ![512, 1024]⟩
abbrev S3 : Shape := ⟨1, ![3]⟩
abbrev S1 : Shape := ⟨1, ![1]⟩
abbrev S_ : Shape := ⟨0, ![]⟩
abbrev S1x256x2048 : Shape := ⟨3, ![1, 256, 2048]⟩
abbrev S1x512x1024 : Shape := ⟨3, ![1, 512, 1024]⟩
abbrev S1x1x1x2048 : Shape := ⟨4, ![1, 1, 1, 2048]⟩
abbrev S1x2048 : Shape := ⟨2, ![1, 2048]⟩
abbrev S256 : Shape := ⟨1, ![256]⟩
abbrev S256x1 : Shape := ⟨2, ![256, 1]⟩
abbrev S1024x1 : Shape := ⟨2, ![1024, 1]⟩
abbrev S1024x1024 : Shape := ⟨2, ![1024, 1024]⟩
abbrev S1x1024x1024 : Shape := ⟨3, ![1, 1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16x16x2048, .i32⟩
  | .hbm, ⟨1, _⟩ => ⟨S16x16x2048, .f32⟩
  | .hbm, ⟨2, _⟩ => ⟨S16x16x256x1024, .bf16⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S16x16x1x2048, .i32⟩
  | .hbm, ⟨7, _⟩ => ⟨S16x16x1x2048, .f32⟩
  | .hbm, ⟨8, _⟩ => ⟨S16x16x256x1024, .bf16⟩
  | .local _ .vmem, ⟨0, _⟩ => ⟨S4x1x1x2048, .i32⟩
  | .local _ .vmem, ⟨1, _⟩ => ⟨S4x1x1x2048, .i32⟩
  | .local _ .vmem, ⟨2, _⟩ => ⟨S4x1x1x2048, .f32⟩
  | .local _ .vmem, ⟨3, _⟩ => ⟨S4x1x1x2048, .f32⟩
  | .local _ .vmem, ⟨4, _⟩ => ⟨S4x1x256x1024, .bf16⟩
  | .local _ .vmem, ⟨5, _⟩ => ⟨S4x1x256x1024, .bf16⟩
  | .local _ .vmem, ⟨6, _⟩ => ⟨S4x1x256x1024, .bf16⟩
  | .local _ .vmem, ⟨7, _⟩ => ⟨S4x1x256x1024, .bf16⟩
  | .local _ .vmem, ⟨8, _⟩ => ⟨S2x1024x2048, .bf16⟩
  | .local _ .vmem, ⟨9, _⟩ => ⟨S2x1024x2048, .bf16⟩
  | .local _ .vmem, ⟨10, _⟩ => ⟨S2x2048x1024, .bf16⟩
  | .local _ .vmem, ⟨11, _⟩ => ⟨S256x2048, .f32⟩
  | .local _ .vmem, ⟨12, _⟩ => ⟨S256x2048, .f32⟩
  | .local _ .vmem, ⟨13, _⟩ => ⟨S512x1024, .f32⟩
  | _, _ => ⟨S16x16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_76 : BitVec 32 := 0#32
  let c4_i32_77 : BitVec 32 := 4#32
  let v121 : BitVec 32 := Scalar.addi c0_i32_76 c4_i32_77
  let c1_i32_78 : BitVec 32 := 1#32
  ⟨c0_i32_76, v121, c1_i32_78⟩
def k0_mult1 (k0_t1 : Fin k0_t1_loop.trips) : BitVec 32 :=
  let c0_i32_76 : BitVec 32 := 0#32
  let c1_i32_78 : BitVec 32 := 1#32
  let arg16 : BitVec 32 := Scf.iv c0_i32_76 c1_i32_78 k0_t1
  let c256_i32 : BitVec 32 := 256#32
  let v136 : BitVec 32 := Scalar.muli arg16 c256_i32
  v136
def k0_mult2 (k0_t1 : Fin k0_t1_loop.trips) : BitVec 32 :=
  let c0_i32_76 : BitVec 32 := 0#32
  let c1_i32_78 : BitVec 32 := 1#32
  let arg16 : BitVec 32 := Scf.iv c0_i32_76 c1_i32_78 k0_t1
  let c512_i32 : BitVec 32 := 512#32
  let v138 : BitVec 32 := Scalar.muli arg16 c512_i32
  v138
def k0_off1 (k0_t1 : Fin k0_t1_loop.trips) : Fin 3 → Nat :=
  let c0_i32_91 : BitVec 32 := 0#32
  let c0_i32_76 : BitVec 32 := 0#32
  let c1_i32_78 : BitVec 32 := 1#32
  let arg16 : BitVec 32 := Scf.iv c0_i32_76 c1_i32_78 k0_t1
  let c256_i32 : BitVec 32 := 256#32
  let v136 : BitVec 32 := Scalar.muli arg16 c256_i32
  let v137 : BitVec 32 := v136
  let c0_i32_93 : BitVec 32 := 0#32
  ![0, v137.toNat, 0]
def k0_off2 (k0_t1 : Fin k0_t1_loop.trips) : Fin 3 → Nat :=
  let c0_i32_97 : BitVec 32 := 0#32
  let c0_i32_76 : BitVec 32 := 0#32
  let c1_i32_78 : BitVec 32 := 1#32
  let arg16 : BitVec 32 := Scf.iv c0_i32_76 c1_i32_78 k0_t1
  let c512_i32 : BitVec 32 := 512#32
  let v138 : BitVec 32 := Scalar.muli arg16 c512_i32
  let v139 : BitVec 32 := v138
  let c0_i32_99 : BitVec 32 := 0#32
  ![0, v139.toNat, 0]
def k0_mult3 (k0_t1 : Fin k0_t1_loop.trips) : BitVec 32 :=
  let c0_i32_76 : BitVec 32 := 0#32
  let c1_i32_78 : BitVec 32 := 1#32
  let arg16 : BitVec 32 := Scf.iv c0_i32_76 c1_i32_78 k0_t1
  let c256_i32_100 : BitVec 32 := 256#32
  let v152 : BitVec 32 := Scalar.muli arg16 c256_i32_100
  v152
def k0_mult4 (k0_t1 : Fin k0_t1_loop.trips) : BitVec 32 :=
  let c0_i32_76 : BitVec 32 := 0#32
  let c1_i32_78 : BitVec 32 := 1#32
  let arg16 : BitVec 32 := Scf.iv c0_i32_76 c1_i32_78 k0_t1
  let c512_i32_101 : BitVec 32 := 512#32
  let v154 : BitVec 32 := Scalar.muli arg16 c512_i32_101
  v154
def k0_mult5 (k0_t1 : Fin k0_t1_loop.trips) : BitVec 32 :=
  let c0_i32_76 : BitVec 32 := 0#32
  let c1_i32_78 : BitVec 32 := 1#32
  let arg16 : BitVec 32 := Scf.iv c0_i32_76 c1_i32_78 k0_t1
  let c256_i32_111 : BitVec 32 := 256#32
  let v168 : BitVec 32 := Scalar.muli arg16 c256_i32_111
  v168
def k0_mult6 (k0_t1 : Fin k0_t1_loop.trips) : BitVec 32 :=
  let c0_i32_76 : BitVec 32 := 0#32
  let c1_i32_78 : BitVec 32 := 1#32
  let arg16 : BitVec 32 := Scf.iv c0_i32_76 c1_i32_78 k0_t1
  let c512_i32_112 : BitVec 32 := 512#32
  let v170 : BitVec 32 := Scalar.muli arg16 c512_i32_112
  v170
def k0_off3 (k0_t1 : Fin k0_t1_loop.trips) : Fin 3 → Nat :=
  let c0_115 : Index := 0#32
  let c0_i32_76 : BitVec 32 := 0#32
  let c1_i32_78 : BitVec 32 := 1#32
  let arg16 : BitVec 32 := Scf.iv c0_i32_76 c1_i32_78 k0_t1
  let c256_i32_111 : BitVec 32 := 256#32
  let v168 : BitVec 32 := Scalar.muli arg16 c256_i32_111
  let v169 : BitVec 32 := v168
  let v174 : Index := Scalar.indexCast v169
  let c0_116 : Index := 0#32
  ![0, v174.toNat, 0]
def k0_off4 (k0_t1 : Fin k0_t1_loop.trips) : Fin 3 → Nat :=
  let c0_123 : Index := 0#32
  let c0_i32_76 : BitVec 32 := 0#32
  let c1_i32_78 : BitVec 32 := 1#32
  let arg16 : BitVec 32 := Scf.iv c0_i32_76 c1_i32_78 k0_t1
  let c512_i32_112 : BitVec 32 := 512#32
  let v170 : BitVec 32 := Scalar.muli arg16 c512_i32_112
  let v171 : BitVec 32 := v170
  let v186 : Index := Scalar.indexCast v171
  let c0_124 : Index := 0#32
  ![0, v186.toNat, 0]
def k0_mult7 : BitVec 32 :=
  let c0_i32_80 : BitVec 32 := 0#32
  c0_i32_80
def k0_mult8 : BitVec 32 :=
  let c0_i32_81 : BitVec 32 := 0#32
  c0_i32_81
def k0_off5 (i : grid0.Coords) : Fin 3 → Nat :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v68 : Index := Scalar.indexCast v14
  let c0_46 : Index := 0#32
  let c0_47 : Index := 0#32
  ![v68.toNat, 0, 0]
def k0_off6 (i : grid0.Coords) : Fin 3 → Nat :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v80 : Index := Scalar.indexCast v14
  let c0_52 : Index := 0#32
  let c0_53 : Index := 0#32
  ![v80.toNat, 0, 0]
def k0_off7 (i : grid0.Coords) : Fin 3 → Nat :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v85 : Index := Scalar.indexCast v14
  let c0_55 : Index := 0#32
  let c1024 : Index := 1024#32
  ![v85.toNat, 0, 1024]
def k0_off8 (i : grid0.Coords) : Fin 3 → Nat :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v97 : Index := Scalar.indexCast v14
  let c1024_60 : Index := 1024#32
  let c0_61 : Index := 0#32
  ![v97.toNat, 1024, 0]
def k0_cond2 (i : grid0.Coords) : BitVec 1 :=
  let arg0 : BitVec 32 := BitVec.ofNat 32 (i 0).val
  let c1_i32_67 : BitVec 32 := 1#32
  let v107 : BitVec 32 := Scalar.addi arg0 c1_i32_67
  let c16_i32 : BitVec 32 := 16#32
  let v108 : BitVec 1 := Scalar.cmpi .slt v107 c16_i32
  let v109 : BitVec 32 := Scalar.extui v108
  let c0_i32_68 : BitVec 32 := 0#32
  let v110 : BitVec 1 := Scalar.cmpi .ne v109 c0_i32_68
  v110

def k0_mult9 (i : grid0.Coords) : BitVec 32 :=
  let arg1 : BitVec 32 := BitVec.ofNat 32 (i 1).val
  let c256_i32 : BitVec 32 := 256#32
  let v122 : BitVec 32 := Scalar.muli arg1 c256_i32
  v122
def k0_mult10 (i : grid0.Coords) : BitVec 32 :=
  let arg1 : BitVec 32 := BitVec.ofNat 32 (i 1).val
  let c512_i32 : BitVec 32 := 512#32
  let v124 : BitVec 32 := Scalar.muli arg1 c512_i32
  v124
def k0_off9 (i : grid0.Coords) : Fin 3 → Nat :=
  let arg0 : BitVec 32 := BitVec.ofNat 32 (i 0).val
  let c1_i32_76 : BitVec 32 := 1#32
  let v121 : BitVec 32 := Scalar.addi arg0 c1_i32_76
  let arg1 : BitVec 32 := BitVec.ofNat 32 (i 1).val
  let c256_i32 : BitVec 32 := 256#32
  let v122 : BitVec 32 := Scalar.muli arg1 c256_i32
  let v123 : BitVec 32 := v122
  let c0_i32_78 : BitVec 32 := 0#32
  ![v121.toNat, v123.toNat, 0]
def k0_off10 (i : grid0.Coords) : Fin 3 → Nat :=
  let arg0 : BitVec 32 := BitVec.ofNat 32 (i 0).val
  let c1_i32_76 : BitVec 32 := 1#32
  let v121 : BitVec 32 := Scalar.addi arg0 c1_i32_76
  let arg1 : BitVec 32 := BitVec.ofNat 32 (i 1).val
  let c512_i32 : BitVec 32 := 512#32
  let v124 : BitVec 32 := Scalar.muli arg1 c512_i32
  let v125 : BitVec 32 := v124
  let c0_i32_82 : BitVec 32 := 0#32
  ![v121.toNat, v125.toNat, 0]
def k0_mult11 (i : grid0.Coords) : BitVec 32 :=
  let arg1 : BitVec 32 := BitVec.ofNat 32 (i 1).val
  let c256_i32_84 : BitVec 32 := 256#32
  let v139 : BitVec 32 := Scalar.muli arg1 c256_i32_84
  v139
def k0_mult12 (i : grid0.Coords) : BitVec 32 :=
  let arg1 : BitVec 32 := BitVec.ofNat 32 (i 1).val
  let c512_i32_85 : BitVec 32 := 512#32
  let v141 : BitVec 32 := Scalar.muli arg1 c512_i32_85
  v141
def k0_off11 (i : grid0.Coords) : Fin 3 → Nat :=
  let c1_i32_83 : BitVec 32 := 1#32
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v138 : BitVec 32 := Scalar.subi c1_i32_83 v14
  let v145 : Index := Scalar.indexCast v138
  let arg1 : BitVec 32 := BitVec.ofNat 32 (i 1).val
  let c256_i32_84 : BitVec 32 := 256#32
  let v139 : BitVec 32 := Scalar.muli arg1 c256_i32_84
  let v140 : BitVec 32 := v139
  let v146 : Index := Scalar.indexCast v140
  let c0_88 : Index := 0#32
  ![v145.toNat, v146.toNat, 0]
def k0_off12 (i : grid0.Coords) : Fin 3 → Nat :=
  let c1_i32_83 : BitVec 32 := 1#32
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v138 : BitVec 32 := Scalar.subi c1_i32_83 v14
  let v159 : Index := Scalar.indexCast v138
  let arg1 : BitVec 32 := BitVec.ofNat 32 (i 1).val
  let c512_i32_85 : BitVec 32 := 512#32
  let v141 : BitVec 32 := Scalar.muli arg1 c512_i32_85
  let v142 : BitVec 32 := v141
  let v160 : Index := Scalar.indexCast v142
  let c0_94 : Index := 0#32
  ![v159.toNat, v160.toNat, 0]
def k0_cond3 (i : grid0.Coords) : BitVec 1 :=
  let arg1 : BitVec 32 := BitVec.ofNat 32 (i 1).val
  let c1_i32_69 : BitVec 32 := 1#32
  let v111 : BitVec 32 := Scalar.addi arg1 c1_i32_69
  let c4_i32 : BitVec 32 := 4#32
  let v112 : BitVec 1 := Scalar.cmpi .eq v111 c4_i32
  let arg0 : BitVec 32 := BitVec.ofNat 32 (i 0).val
  let c2_i32_70 : BitVec 32 := 2#32
  let v113 : BitVec 32 := Scalar.addi arg0 c2_i32_70
  let c1_i32_71 : BitVec 32 := 1#32
  let v114 : BitVec 32 := Scalar.addi arg0 c1_i32_71
  let v115 : BitVec 32 := Scalar.select v112 v113 v114
  let c16_i32_74 : BitVec 32 := 16#32
  let v118 : BitVec 1 := Scalar.cmpi .slt v115 c16_i32_74
  let v119 : BitVec 32 := Scalar.extui v118
  let c0_i32_75 : BitVec 32 := 0#32
  let v120 : BitVec 1 := Scalar.cmpi .ne v119 c0_i32_75
  v120

def k0_mult13 (i : grid0.Coords) : BitVec 32 :=
  let arg1 : BitVec 32 := BitVec.ofNat 32 (i 1).val
  let c1_i32_69 : BitVec 32 := 1#32
  let v111 : BitVec 32 := Scalar.addi arg1 c1_i32_69
  let c4_i32 : BitVec 32 := 4#32
  let v112 : BitVec 1 := Scalar.cmpi .eq v111 c4_i32
  let c0_i32_73 : BitVec 32 := 0#32
  let c1_i32_72 : BitVec 32 := 1#32
  let v116 : BitVec 32 := Scalar.addi arg1 c1_i32_72
  let v117 : BitVec 32 := Scalar.select v112 c0_i32_73 v116
  let c256_i32 : BitVec 32 := 256#32
  let v121 : BitVec 32 := Scalar.muli v117 c256_i32
  v121
def k0_mult14 (i : grid0.Coords) : BitVec 32 :=
  let arg1 : BitVec 32 := BitVec.ofNat 32 (i 1).val
  let c1_i32_69 : BitVec 32 := 1#32
  let v111 : BitVec 32 := Scalar.addi arg1 c1_i32_69
  let c4_i32 : BitVec 32 := 4#32
  let v112 : BitVec 1 := Scalar.cmpi .eq v111 c4_i32
  let c0_i32_73 : BitVec 32 := 0#32
  let c1_i32_72 : BitVec 32 := 1#32
  let v116 : BitVec 32 := Scalar.addi arg1 c1_i32_72
  let v117 : BitVec 32 := Scalar.select v112 c0_i32_73 v116
  let c512_i32 : BitVec 32 := 512#32
  let v123 : BitVec 32 := Scalar.muli v117 c512_i32
  v123
def k0_off13 (i : grid0.Coords) : Fin 3 → Nat :=
  let arg1 : BitVec 32 := BitVec.ofNat 32 (i 1).val
  let c1_i32_69 : BitVec 32 := 1#32
  let v111 : BitVec 32 := Scalar.addi arg1 c1_i32_69
  let c4_i32 : BitVec 32 := 4#32
  let v112 : BitVec 1 := Scalar.cmpi .eq v111 c4_i32
  let arg0 : BitVec 32 := BitVec.ofNat 32 (i 0).val
  let c2_i32_70 : BitVec 32 := 2#32
  let v113 : BitVec 32 := Scalar.addi arg0 c2_i32_70
  let c1_i32_71 : BitVec 32 := 1#32
  let v114 : BitVec 32 := Scalar.addi arg0 c1_i32_71
  let v115 : BitVec 32 := Scalar.select v112 v113 v114
  let c0_i32_73 : BitVec 32 := 0#32
  let c1_i32_72 : BitVec 32 := 1#32
  let v116 : BitVec 32 := Scalar.addi arg1 c1_i32_72
  let v117 : BitVec 32 := Scalar.select v112 c0_i32_73 v116
  let c256_i32 : BitVec 32 := 256#32
  let v121 : BitVec 32 := Scalar.muli v117 c256_i32
  let v122 : BitVec 32 := v121
  let c0_i32_77 : BitVec 32 := 0#32
  ![v115.toNat, v122.toNat, 0]
def k0_off14 (i : grid0.Coords) : Fin 3 → Nat :=
  let arg1 : BitVec 32 := BitVec.ofNat 32 (i 1).val
  let c1_i32_69 : BitVec 32 := 1#32
  let v111 : BitVec 32 := Scalar.addi arg1 c1_i32_69
  let c4_i32 : BitVec 32 := 4#32
  let v112 : BitVec 1 := Scalar.cmpi .eq v111 c4_i32
  let arg0 : BitVec 32 := BitVec.ofNat 32 (i 0).val
  let c2_i32_70 : BitVec 32 := 2#32
  let v113 : BitVec 32 := Scalar.addi arg0 c2_i32_70
  let c1_i32_71 : BitVec 32 := 1#32
  let v114 : BitVec 32 := Scalar.addi arg0 c1_i32_71
  let v115 : BitVec 32 := Scalar.select v112 v113 v114
  let c0_i32_73 : BitVec 32 := 0#32
  let c1_i32_72 : BitVec 32 := 1#32
  let v116 : BitVec 32 := Scalar.addi arg1 c1_i32_72
  let v117 : BitVec 32 := Scalar.select v112 c0_i32_73 v116
  let c512_i32 : BitVec 32 := 512#32
  let v123 : BitVec 32 := Scalar.muli v117 c512_i32
  let v124 : BitVec 32 := v123
  let c0_i32_81 : BitVec 32 := 0#32
  ![v115.toNat, v124.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x16x2048 : Shape := ⟨3, ![16, 16, 2048]⟩
abbrev S16x16x256x1024 : Shape := ⟨4, ![16, 16, 256, 1024]⟩
abbrev S16x1024x2048 : Shape := ⟨3, ![16, 1024, 2048]⟩
abbrev S16x2048x1024 : Shape := ⟨3, ![16, 2048, 1024]⟩
abbrev S16x16x2048x1 : Shape := ⟨4, ![16, 16, 2048, 1]⟩
abbrev S1x1x1x256 : Shape := ⟨4, ![1, 1, 1, 256]⟩
abbrev S16x16x2048x256 : Shape := ⟨4, ![16, 16, 2048, 256]⟩
abbrev S16x16x256 : Shape := ⟨3, ![16, 16, 256]⟩
abbrev S16x2048x16x256 : Shape := ⟨4, ![16, 2048, 16, 256]⟩
abbrev S16x16x256x2048 : Shape := ⟨4, ![16, 16, 256, 2048]⟩
abbrev S_ : Shape := ⟨0, ![]⟩
abbrev S16x1024x16x256 : Shape := ⟨4, ![16, 1024, 16, 256]⟩
abbrev S16x16x256x1 : Shape := ⟨4, ![16, 16, 256, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x16x2048, .i32⟩
  | .hbm, ⟨1, _⟩ => ⟨S16x16x2048, .f32⟩
  | .hbm, ⟨2, _⟩ => ⟨S16x16x256x1024, .bf16⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S16x16x256x1024, .f32⟩
  | .hbm, ⟨7, _⟩ => ⟨S16x16x2048x1, .i32⟩
  | .hbm, ⟨8, _⟩ => ⟨S1x1x1x256, .i32⟩
  | .hbm, ⟨9, _⟩ => ⟨S16x16x2048x256, .i32⟩
  | .hbm, ⟨10, _⟩ => ⟨S16x16x2048x256, .i32⟩
  | .hbm, ⟨11, _⟩ => ⟨S16x16x2048x256, .i1⟩
  | .hbm, ⟨12, _⟩ => ⟨S16x16x2048x256, .f32⟩
  | .hbm, ⟨13, _⟩ => ⟨S16x16x256, .f32⟩
  | .hbm, ⟨14, _⟩ => ⟨S16x2048x16x256, .f32⟩
  | .hbm, ⟨15, _⟩ => ⟨S16x16x256x2048, .f32⟩
  | .hbm, ⟨16, _⟩ => ⟨S16x16x256x2048, .f32⟩
  | .hbm, ⟨17, _⟩ => ⟨S16x16x256x2048, .f32⟩
  | .hbm, ⟨18, _⟩ => ⟨S_, .f32⟩
  | .hbm, ⟨19, _⟩ => ⟨S16x16x256x2048, .f32⟩
  | .hbm, ⟨20, _⟩ => ⟨S16x16x256x2048, .f32⟩
  | .hbm, ⟨21, _⟩ => ⟨S_, .f32⟩
  | .hbm, ⟨22, _⟩ => ⟨S16x16x256x2048, .f32⟩
  | .hbm, ⟨23, _⟩ => ⟨S16x16x256x2048, .f32⟩
  | .hbm, ⟨24, _⟩ => ⟨S16x16x256x2048, .f32⟩
  | .hbm, ⟨25, _⟩ => ⟨S16x2048x16x256, .f32⟩
  | .hbm, ⟨26, _⟩ => ⟨S16x16x256x2048, .f32⟩
  | .hbm, ⟨27, _⟩ => ⟨S16x16x256x2048, .f32⟩
  | .hbm, ⟨28, _⟩ => ⟨S16x1024x16x256, .f32⟩
  | .hbm, ⟨29, _⟩ => ⟨S16x16x256x1024, .f32⟩
  | .hbm, ⟨30, _⟩ => ⟨S16x16x256x1, .f32⟩
  | .hbm, ⟨31, _⟩ => ⟨S16x16x256x1024, .f32⟩
  | .hbm, ⟨32, _⟩ => ⟨S16x16x256x1024, .f32⟩
  | .hbm, ⟨33, _⟩ => ⟨S16x16x256x1024, .bf16⟩
  | _, _ => ⟨S16x16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x7168 : Shape := ⟨2, ![1024, 7168]⟩
abbrev S32768x1024 : Shape := ⟨2, ![32768, 1024]⟩
abbrev S1x1024 : Shape := ⟨2, ![1, 1024]⟩
abbrev S32768x7168 : Shape := ⟨2, ![32768, 7168]⟩
abbrev S1024x1024 : Shape := ⟨2, ![1024, 1024]⟩
abbrev S1024x3584 : Shape := ⟨2, ![1024, 3584]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x7168, .f32⟩
  | .hbm, ⟨3, _⟩ => ⟨S32768x1024, .f32⟩
  | .hbm, ⟨4, _⟩ => ⟨S1x1024, .f32⟩
  | .hbm, ⟨5, _⟩ => ⟨S1024x7168, .bf16⟩
  | .hbm, ⟨6, _⟩ => ⟨S32768x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S1024x3584, .bf16⟩
  | .local _ .vmem, ⟨6, _⟩ => ⟨S1024x3584, .bf16⟩
  | .local _ .vmem, ⟨7, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16x2048x1024 : Shape := ⟨3, ![16, 2048, 1024]⟩
abbrev S1024 : Shape := ⟨1, ![1024]⟩
abbrev S1024x7168 : Shape := ⟨2, ![1024, 7168]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x7168 : Shape := ⟨3, ![16, 2048, 7168]⟩
abbrev S32768x7168 : Shape := ⟨2, ![32768, 7168]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x7168, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x7168, .f32⟩
  | .hbm, ⟨20, _⟩ => ⟨S32768x7168, .f32⟩
  | .hbm, ⟨21, _⟩ => ⟨S32768x7168, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S32768x1024 : Shape := ⟨2, ![32768, 1024]⟩
abbrev S32768x7168 : Shape := ⟨2, ![32768, 7168]⟩
abbrev S16x2048x1024 : Shape := ⟨3, ![16, 2048, 1024]⟩
abbrev S1024x1024 : Shape := ⟨2, ![1024, 1024]⟩
abbrev S1024 : Shape := ⟨1, ![1024]⟩
abbrev S1024x16 : Shape := ⟨2, ![1024, 16]⟩
abbrev S1024x32 : Shape := ⟨2, ![1024, 32]⟩
abbrev S1x1024 : Shape := ⟨2, ![1, 1024]⟩
abbrev S32768x16 : Shape := ⟨2, ![32768, 16]⟩
abbrev S256x1024 : Shape := ⟨2, ![256, 1024]⟩
abbrev S256 : Shape := ⟨1, ![256]⟩
abbrev S256x1 : Shape := ⟨2, ![256, 1]⟩
abbrev S256x32 : Shape := ⟨2, ![256, 32]⟩
abbrev S256x16 : Shape := ⟨2, ![256, 16]⟩

abbrev nBuf : Space → Nat
  | .hbm => 22
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S16x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S1024x16, .bf16⟩
  | .hbm, ⟨10, _⟩ => ⟨S1024x16, .f32⟩
  | .hbm, ⟨11, _⟩ => ⟨S1024x16, .f32⟩
  | .hbm, ⟨12, _⟩ => ⟨S1024x16, .bf16⟩
  | .hbm, ⟨13, _⟩ => ⟨S1024x32, .bf16⟩
  | .hbm, ⟨14, _⟩ => ⟨S32768x1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S32768x1024, .f32⟩
  | .hbm, ⟨20, _⟩ => ⟨S32768x1024, .bf16⟩
  | .hbm, ⟨21, _⟩ => ⟨S32768x16, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x32, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x16, .f32⟩
  | .local _ .vmem, ⟨20, _⟩ => ⟨S1024x16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S32768x7168 : Shape := ⟨2, ![32768, 7168]⟩
abbrev S16x2048x1024 : Shape := ⟨3, ![16, 2048, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S16x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S32768x1024, .bf16⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel4.lean ====
abbrev S32768x1024 : Shape := ⟨2, ![32768, 1024]⟩
abbrev S32768x7168 : Shape := ⟨2, ![32768, 7168]⟩
abbrev S16x2048x1024 : Shape := ⟨3, ![16, 2048, 1024]⟩
abbrev S1024x1024 : Shape := ⟨2, ![1024, 1024]⟩
abbrev S1024 : Shape := ⟨1, ![1024]⟩
abbrev S1024x16 : Shape := ⟨2, ![1024, 16]⟩
abbrev S1024x32 : Shape := ⟨2, ![1024, 32]⟩
abbrev S1x1024 : Shape := ⟨2, ![1, 1024]⟩
abbrev S32768x16 : Shape := ⟨2, ![32768, 16]⟩
abbrev S256x1024 : Shape := ⟨2, ![256, 1024]⟩
abbrev S256 : Shape := ⟨1, ![256]⟩
abbrev S256x1 : Shape := ⟨2, ![256, 1]⟩
abbrev S256x32 : Shape := ⟨2, ![256, 32]⟩
abbrev S256x16 : Shape := ⟨2, ![256, 16]⟩

abbrev nBuf : Space → Nat
  | .hbm => 22
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S16x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S1024x16, .bf16⟩
  | .hbm, ⟨10, _⟩ => ⟨S1024x16, .f32⟩
  | .hbm, ⟨11, _⟩ => ⟨S1024x16, .f32⟩
  | .hbm, ⟨12, _⟩ => ⟨S1024x16, .bf16⟩
  | .hbm, ⟨13, _⟩ => ⟨S1024x32, .bf16⟩
  | .hbm, ⟨14, _⟩ => ⟨S32768x1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S32768x1024, .f32⟩
  | .hbm, ⟨20, _⟩ => ⟨S32768x1024, .bf16⟩
  | .hbm, ⟨21, _⟩ => ⟨S32768x16, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x32, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x16, .f32⟩
  | .local _ .vmem, ⟨20, _⟩ => ⟨S1024x16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S32768x1024 : Shape := ⟨2, ![32768, 1024]⟩
abbrev S32768x7168 : Shape := ⟨2, ![32768, 7168]⟩
abbrev S16x2048x1024 : Shape := ⟨3, ![16, 2048, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x16 : Shape := ⟨2, ![32768, 16]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S16x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S32768x1024, .bf16⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x16, .f32⟩
  | .hbm, ⟨56, _⟩ => ⟨S_, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768x1, .f32⟩
  | .hbm, ⟨62, _⟩ => ⟨S32768x16, .f32⟩
  | .hbm, ⟨63, _⟩ => ⟨S32768x16, .f32⟩
  | .hbm, ⟨64, _⟩ => ⟨S32768x16, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x16, .f32⟩
  | .hbm, ⟨69, _⟩ => ⟨S32768x16, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Ffn.Base.lean ====
/-
  The expert feed-forward's run: @main up to its region, the operands the body addresses itself, and what the region's
  invariant is made of before its first point and after its last.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's, and the transfers' counters. -/
local notation "𝕄" => MT nD τ sig Unit (Elt F) ℕ (Pipeline.UD sig nD τ) ℕ

variable (m : (ℓ : Loc nD τ sig) → Buf (Elt F) ℓ) (ρ : Dev nD → PrngReg)

/-- @main up to the region: the two reshapes. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands -/

/-- The two-slot copies of one expert's three weights, in bf16. -/
abbrev wgM : Memref sig .tc .vmem S2x1024x2048 .bf16 := Memref.whole cc0_scratch0
abbrev wuM : Memref sig .tc .vmem S2x1024x2048 .bf16 := Memref.whole cc0_scratch1
abbrev wdM : Memref sig .tc .vmem S2x2048x1024 .bf16 := Memref.whole cc0_scratch2
/-- The buffers a chunk of the three weights lands in. -/
abbrev sgM : Memref sig .tc .vmem S256x2048 .f32 := Memref.whole cc0_scratch3
abbrev suM : Memref sig .tc .vmem S256x2048 .f32 := Memref.whole cc0_scratch4
abbrev sdM : Memref sig .tc .vmem S512x1024 .f32 := Memref.whole cc0_scratch5
/-- The three weights, left in HBM. -/
abbrev hgM : Memref sig .tc .hbm S16x1024x2048 .f32 := Memref.whole main_arg3
abbrev huM : Memref sig .tc .hbm S16x1024x2048 .f32 := Memref.whole main_arg4
abbrev hdM : Memref sig .tc .hbm S16x2048x1024 .f32 := Memref.whole main_arg5

abbrev Cont (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Cont (F := F) c M) : sProp 𝕄 :=
  M.view.loc (c : Thread nD τ) ↦{fullShare} f

/-- The body's three transfer cells. -/
abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0
          ∗ semVal ((c : Thread nD τ), SemLoc.dma 10) 0) := by
  rw [Pipeline.ownSems0_eq_of_list c osem0 [0, 1, 2] (by decide) (by decide)]; rfl

/-- The arrays the body's own transfers read: the three weights. -/
def H0 : Finset (Ref sig .tc) := {main_arg3, main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop(held c hgM (V m c main_arg3) ∗ held c huM (V m c main_arg4) ∗ held c hdM (V m c main_arg5)) := by
  rw [BI.bigSep_eq_bigSepL_of_eq [main_arg3, main_arg4, main_arg5] (by decide) (by decide)]; rfl

theorem PhiD0_eq (c : Dev nD) :
    (Pipeline.ΦD osem0 spec0 H0 (V m) c : sProp 𝕄)
      = iprop(iprop((∃ d, owns (c : Thread nD τ) wgM fullShare d) ∗ (∃ d, owns (c : Thread nD τ) wuM fullShare d)
                ∗ (∃ d, owns (c : Thread nD τ) wdM fullShare d) ∗ (∃ d, owns (c : Thread nD τ) sgM fullShare d)
                ∗ (∃ d, owns (c : Thread nD τ) suM fullShare d) ∗ (∃ d, owns (c : Thread nD τ) sdM fullShare d))
          ∗ (∃ r, prngReg c r)
          ∗ iprop(semVal ((c : Thread nD τ), SemLoc.dma 8) 0 ∗ semVal ((c : Thread nD τ), SemLoc.dma 9) 0
                  ∗ semVal ((c : Thread nD τ), SemLoc.dma 10) 0)
          ∗ iprop(held c hgM (V m c main_arg3) ∗ held c huM (V m c main_arg4) ∗ held c hdM (V m c main_arg5))) := by
  rw [Pipeline.ΦD_eq, scopedRest0_eq, ownSems00_eq, hbmPts0_eq]
  simp only [wgM, wuM, wdM, sgM, suM, sdM, owns_whole]; try rfl

end Cert.KernelIdeal.Ffn

end
-- ==== Proof.Ffn.Pure.lean ====
module

public import proofs.«01_k».proof.Proof.Ffn.Base
public import Idealize.ShloMosaic.Lib.WritesUnit
public import Idealize.ShloMosaic.Lib.Pipeline.Value
public import Idealize.ShloMosaic.Lib.Pointwise.Index

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable {F : FTy → Type} [FloatOps F]

/-! ## What a slot of a weight's copy holds, and what a landed chunk holds -/

section
variable {R C n : ℕ}

/-- Slot `s` of the copy `d` holds the first `k` rows of expert `e`'s weight, rounded to bf16. -/
def GoodW (s e k : ℕ) (X : (⟨3, ![16, R, C]⟩ : Shape).Idx → F .f32) (d : (⟨3, ![2, R, C]⟩ : Shape).Idx → F .bf16) : Prop :=
  ∀ (y : (⟨3, ![2, R, C]⟩ : Shape).Idx) (x : (⟨3, ![16, R, C]⟩ : Shape).Idx), (y 0).val = s → (x 0).val = e →
    (x 1).val = (y 1).val → (x 2).val = (y 2).val → (y 1).val < k → d y = FloatOps.truncf .bf16 bitsLt_bf16_f32 (X x)

/-- The buffer `g` holds the rows of expert `e`'s weight from row `o`. -/
def GoodS (e o : ℕ) (X : (⟨3, ![16, R, C]⟩ : Shape).Idx → F .f32) (g : (⟨2, ![n, C]⟩ : Shape).Idx → F .f32) : Prop :=
  ∀ (y : (⟨2, ![n, C]⟩ : Shape).Idx) (x : (⟨3, ![16, R, C]⟩ : Shape).Idx), (x 0).val = e → (x 1).val = o + (y 0).val →
    (x 2).val = (y 1).val → g y = X x

theorem GoodW.zero {s e : ℕ} {X : (⟨3, ![16, R, C]⟩ : Shape).Idx → F .f32} {d : (⟨3, ![2, R, C]⟩ : Shape).Idx → F .bf16} :
    GoodW s e 0 X d := fun y x _ _ _ _ h => absurd h (Nat.not_lt_zero _)

/-- Past the last expert there is nothing to hold. -/
theorem GoodW.past {s e k : ℕ} (he : 16 ≤ e) {X : (⟨3, ![16, R, C]⟩ : Shape).Idx → F .f32}
    {d : (⟨3, ![2, R, C]⟩ : Shape).Idx → F .bf16} : GoodW s e k X d :=
  fun y x _ h _ _ _ => by have : (x 0).val < 16 := (x 0).isLt; omega

/-- One more chunk stored. -/
theorem GoodW.step {κ : Kind} {sp : Space} (v : View sig κ sp (⟨3, ![2, R, C]⟩ : Shape) .bf16) (f : v.ty.Contents (Elt F))
    {s e o : ℕ} {off : Fin 3 → ℕ} (hoff : off = ![s, o, 0]) (inb : ∀ a, off a + (![1, n, C] : Fin 3 → ℕ) a ≤ (![2, R, C] : Fin 3 → ℕ) a)
    (X : (⟨3, ![16, R, C]⟩ : Shape).Idx → F .f32) (g : (⟨2, ![n, C]⟩ : Shape).Idx → F .f32) (hg : GoodS e o X g)
    (hc : (⟨2, ![n, C]⟩ : Shape).ShapeCasts ⟨3, ![1, n, C]⟩) (h : GoodW s e o X (v.read (Elt F) f)) :
    GoodW s e (o + n) X (v.read (Elt F) (v.writes (Elt F) f
      [⟨Rect.unit (s := (⟨3, ![2, R, C]⟩ : Shape)) off ![1, n, C] inb,
        shapeCast (⟨3, ![1, n, C]⟩ : Shape) (truncf (s := (⟨2, ![n, C]⟩ : Shape)) .bf16 g bitsLt_bf16_f32) hc⟩])) := by
  intro y x hy hx h1 h2 hk
  by_cases hin : o ≤ (y 1).val
  · have hyC : (y 2).val < C := (y 2).isLt
    refine (View.read_writes_cons_unit_of_mem v f inb _ [] y
      (ix3 (n0 := 1) (n1 := n) (n2 := C) ⟨0, Nat.one_pos⟩ ⟨(y 1).val - o, by omega⟩ ⟨(y 2).val, hyC⟩ : (⟨3, ![1, n, C]⟩ : Shape).Idx) hoff ?_).trans ?_
    · intro a
      match a with
      | ⟨0, _⟩ => show (y 0).val = s + 0; omega
      | ⟨1, _⟩ => show (y 1).val = o + ((y 1).val - o); omega
      | ⟨2, _⟩ => show (y 2).val = 0 + (y 2).val; omega
    · refine (shapeCast_addUnit_apply ![n, C] _ hc _).trans ?_
      refine congrArg (FloatOps.truncf .bf16 bitsLt_bf16_f32) (hg _ x hx ?_ ?_)
      · show (x 1).val = o + ((y 1).val - o); omega
      · show (x 2).val = (y 2).val; omega
  · refine (View.read_writes_cons_unit_of_not_mem v f inb _ [] y hoff (1 : Fin 3) (Or.inl ?_)).trans ?_
    · show (y 1).val < o; omega
    · exact h y x hy hx h1 h2 (by omega)

/-- The other slot is left as it was. -/
theorem GoodW.keep {κ : Kind} {sp : Space} (v : View sig κ sp (⟨3, ![2, R, C]⟩ : Shape) .bf16) (f : v.ty.Contents (Elt F))
    {s s' e' k o : ℕ} {off : Fin 3 → ℕ} (hoff : off = ![s, o, 0]) (inb : ∀ a, off a + (![1, n, C] : Fin 3 → ℕ) a ≤ (![2, R, C] : Fin 3 → ℕ) a)
    (X : (⟨3, ![16, R, C]⟩ : Shape).Idx → F .f32) (w : (⟨3, ![1, n, C]⟩ : Shape).Idx → F .bf16) (hs : s' ≠ s)
    (h : GoodW s' e' k X (v.read (Elt F) f)) :
    GoodW s' e' k X (v.read (Elt F) (v.writes (Elt F) f [⟨Rect.unit (s := (⟨3, ![2, R, C]⟩ : Shape)) off ![1, n, C] inb, w⟩])) := by
  intro y x hy hx h1 h2 hk
  refine (View.read_writes_cons_unit_of_not_mem v f inb _ [] y hoff (0 : Fin 3) ?_).trans ?_
  · show (y 0).val < s ∨ s + 1 ≤ (y 0).val; omega
  · exact h y x hy hx h1 h2 hk

/-- A block of expert `e`'s weight from row `o1` and column `o2`, rounded to bf16. -/
def blkW {K1 K2 : ℕ} (o1 o2 : ℕ) (h1 : o1 + K1 ≤ R) (h2 : o2 + K2 ≤ C) (X : (⟨3, ![16, R, C]⟩ : Shape).Idx → F .f32) (e : Fin 16) :
    (⟨3, ![1, K1, K2]⟩ : Shape).Idx → F .bf16 := fun y =>
  FloatOps.truncf .bf16 bitsLt_bf16_f32 (X (ix3 e
    ⟨o1 + (y 1).val, by have : (y 1).val < K1 := (y 1).isLt; omega⟩ ⟨o2 + (y 2).val, by have : (y 2).val < K2 := (y 2).isLt; omega⟩))

/-- A load from a complete slot. -/
theorem GoodW.load {K1 K2 : ℕ} {κ : Kind} {sp : Space} (v : View sig κ sp (⟨3, ![2, R, C]⟩ : Shape) .bf16) (f : v.ty.Contents (Elt F))
    {s o1 o2 : ℕ} {e : Fin 16} {off : Fin 3 → ℕ} (hoff : off = ![s, o1, o2])
    (inb : ∀ a, off a + (![1, K1, K2] : Fin 3 → ℕ) a ≤ (![2, R, C] : Fin 3 → ℕ) a)
    (X : (⟨3, ![16, R, C]⟩ : Shape).Idx → F .f32) (h1 : o1 + K1 ≤ R) (h2 : o2 + K2 ≤ C)
    (h : GoodW s e.val R X (v.read (Elt F) f)) :
    v.readAt (Elt F) (Rect.unit (s := (⟨3, ![2, R, C]⟩ : Shape)) off ![1, K1, K2] inb).toLoadRect f = blkW o1 o2 h1 h2 X e := by
  subst hoff
  funext y
  have hy0 : (y 0).val < 1 := (y 0).isLt
  have hy1 : (y 1).val < K1 := (y 1).isLt
  have hy2 : (y 2).val < K2 := (y 2).isLt
  refine h _ _ ?_ rfl ?_ ?_ ?_
  · show s + 1 * (y 0).val = s; omega
  · show o1 + (y 1).val = o1 + 1 * (y 1).val; omega
  · show o2 + (y 2).val = o2 + 1 * (y 2).val; omega
  · show o1 + 1 * (y 1).val < R; omega

/-- What a transfer of a squeezed slice of a whole operand lands. -/
theorem GoodS.slice {κ : Kind} {sp : Space} (M : Memref sig κ sp (⟨3, ![16, R, C]⟩ : Shape) .f32) (f : M.view.ty.Contents (Elt F))
    {e o : ℕ} {off : Fin 3 → ℕ} (hoff : off = ![e, o, 0])
    (inb : ∀ a, off a + (![1, n, C] : Fin 3 → ℕ) a ≤ (![16, R, C] : Fin 3 → ℕ) a)
    (hq : (⟨3, ![1, n, C]⟩ : Shape).Squeezes ⟨2, ![n, C]⟩) :
    GoodS e o (M.view.read (Elt F) f)
      (((M.slice (Rect.unit (s := (⟨3, ![16, R, C]⟩ : Shape)) off ![1, n, C] inb) (fun _ => rfl)).squeeze (⟨2, ![n, C]⟩ : Shape) hq).view.read (Elt F) f) := by
  subst hoff
  intro y x hx h1 h2
  show M.view.read (Elt F) f ((Rect.unit (s := (⟨3, ![16, R, C]⟩ : Shape)) ![e, o, 0] ![1, n, C] inb).emb (Shape.reshapeEquiv hq.numel_eq y)) = _
  refine congrArg (M.view.read (Elt F) f) ?_
  rw [show (Shape.reshapeEquiv hq.numel_eq y : (⟨3, ![1, n, C]⟩ : Shape).Idx) = Fin.cons ⟨0, Nat.one_pos⟩ y from
    Shape.reshapeEquiv_cons_one (d := ![n, C]) hq.numel_eq y]
  funext a
  apply Fin.ext
  match a with
  | ⟨0, _⟩ => show e + 1 * 0 = (x 0).val; omega
  | ⟨1, _⟩ => show o + 1 * (y 0).val = (x 1).val; omega
  | ⟨2, _⟩ => show 0 + 1 * (y 1).val = (x 2).val; omega

/-- Both slots before step `t`: expert `t / 4` whole in its slot, and of the next expert the first `t % 4` chunks in the other. -/
def Slots (n : ℕ) (t : ℕ) (X : (⟨3, ![16, R, C]⟩ : Shape).Idx → F .f32) (d : (⟨3, ![2, R, C]⟩ : Shape).Idx → F .bf16) : Prop :=
  GoodW (t / 4 % 2) (t / 4) R X d ∧ GoodW (1 - t / 4 % 2) (t / 4 + 1) (n * (t % 4)) X d

theorem Slots.of {t e b : ℕ} (hR : 4 * n = R) (hb : b < 4) (ht : t = 4 * e + b + 1) {X : (⟨3, ![16, R, C]⟩ : Shape).Idx → F .f32}
    {d : (⟨3, ![2, R, C]⟩ : Shape).Idx → F .bf16} (h1 : GoodW (e % 2) e R X d) (h2 : GoodW (1 - e % 2) (e + 1) (n * b + n) X d) :
    Slots n t X d := by
  unfold Slots
  by_cases h3 : b = 3
  · subst h3
    rw [show t / 4 = e + 1 by omega, show t % 4 = 0 by omega, show (e + 1) % 2 = 1 - e % 2 by omega]
    refine ⟨fun y x hy hx hx1 hx2 hk => h2 y x hy hx hx1 hx2 (by omega), GoodW.zero⟩
  · rw [show t / 4 = e by omega, show t % 4 = b + 1 by omega]
    exact ⟨h1, h2⟩

theorem Slots.next {κ : Kind} {sp : Space} (v : View sig κ sp (⟨3, ![2, R, C]⟩ : Shape) .bf16) (f : v.ty.Contents (Elt F))
    {t e b : ℕ} (hR : 4 * n = R) (hb : b < 4) (ht : t = 4 * e + b)
    {off : Fin 3 → ℕ} (hoff : off = ![1 - e % 2, n * b, 0]) (inb : ∀ a, off a + (![1, n, C] : Fin 3 → ℕ) a ≤ (![2, R, C] : Fin 3 → ℕ) a)
    (X : (⟨3, ![16, R, C]⟩ : Shape).Idx → F .f32) (g : (⟨2, ![n, C]⟩ : Shape).Idx → F .f32) (hg : GoodS (e + 1) (n * b) X g)
    (hc : (⟨2, ![n, C]⟩ : Shape).ShapeCasts ⟨3, ![1, n, C]⟩) (h : Slots n t X (v.read (Elt F) f)) :
    Slots n (t + 1) X (v.read (Elt F) (v.writes (Elt F) f
      [⟨Rect.unit (s := (⟨3, ![2, R, C]⟩ : Shape)) off ![1, n, C] inb,
        shapeCast (⟨3, ![1, n, C]⟩ : Shape) (truncf (s := (⟨2, ![n, C]⟩ : Shape)) .bf16 g bitsLt_bf16_f32) hc⟩])) := by
  unfold Slots at h
  rw [show t / 4 = e by omega, show t % 4 = b by omega] at h
  exact Slots.of hR hb (by omega) (GoodW.keep v f hoff inb X _ (by omega) h.1) (GoodW.step v f hoff inb X g hg hc h.2)

/-- At the last expert nothing is fetched. -/
theorem Slots.last {t b : ℕ} (hR : 4 * n = R) (hb : b < 4) (ht : t = 4 * 15 + b) {X : (⟨3, ![16, R, C]⟩ : Shape).Idx → F .f32}
    {d : (⟨3, ![2, R, C]⟩ : Shape).Idx → F .bf16} (h : Slots n t X d) : Slots n (t + 1) X d := by
  unfold Slots at h
  rw [show t / 4 = 15 by omega] at h
  exact Slots.of (e := 15) hR hb (by omega) h.1 (GoodW.past (by omega))

theorem Slots.cur {t : ℕ} (e : Fin 16) {b : ℕ} (hb : b < 4) (ht : t = 4 * e.val + b) {X : (⟨3, ![16, R, C]⟩ : Shape).Idx → F .f32}
    {d : (⟨3, ![2, R, C]⟩ : Shape).Idx → F .bf16} (h : Slots n t X d) : GoodW (e.val % 2) e.val R X d := by
  have := h.1
  rwa [show t / 4 = e.val by omega] at this

/-- A buffer read whole by a rank-2 load. -/
theorem readAt_all2 {α : EltTy} {n0 n1 : ℕ} {κ : Kind} {sp : Space} (v : View sig κ sp (⟨2, ![n0, n1]⟩ : Shape) α) (f : v.ty.Contents (Elt F))
    (inb : ∀ a, (![0, 0] : Fin 2 → ℕ) a + (![n0, n1] : Fin 2 → ℕ) a ≤ (![n0, n1] : Fin 2 → ℕ) a) :
    v.readAt (Elt F) (Rect.unit (s := (⟨2, ![n0, n1]⟩ : Shape)) ![0, 0] ![n0, n1] inb).toLoadRect f = v.read (Elt F) f := by
  funext x
  rw [View.readAt_apply]
  refine congrArg (v.read (Elt F) f) (funext fun a => Fin.ext ?_)
  match a with
  | ⟨0, _⟩ => show 0 + 1 * (x 0).val = (x 0).val; omega
  | ⟨1, _⟩ => show 0 + 1 * (x 1).val = (x 1).val; omega

theorem read_writes_all {S : Shape} {α : EltTy} {κ : Kind} {sp : Space} (v : View sig κ sp S α) (f : v.ty.Contents (Elt F))
    (w : S.Idx → Elt F α) : v.read (Elt F) (v.writes (Elt F) f [⟨Rect.whole S, w⟩]) = w := by
  rw [← View.write_univ_eq_writes_whole, View.writes_nil, View.read_write_univ]

/-- A buffer written whole by a rank-4 store. -/
theorem read_writes_all4 {α : EltTy} {n0 n1 n2 n3 : ℕ} {κ : Kind} {sp : Space} (v : View sig κ sp (⟨4, ![n0, n1, n2, n3]⟩ : Shape) α)
    (f : v.ty.Contents (Elt F)) (inb : ∀ a, (![0, 0, 0, 0] : Fin 4 → ℕ) a + (![n0, n1, n2, n3] : Fin 4 → ℕ) a ≤ (![n0, n1, n2, n3] : Fin 4 → ℕ) a)
    (w : (⟨4, ![n0, n1, n2, n3]⟩ : Shape).Idx → Elt F α) :
    v.read (Elt F) (v.writes (Elt F) f [⟨Rect.unit (s := (⟨4, ![n0, n1, n2, n3]⟩ : Shape)) ![0, 0, 0, 0] ![n0, n1, n2, n3] inb, w⟩]) = w := by
  funext x
  refine View.read_writes_cons_unit_of_mem v f inb w [] x x rfl fun a => ?_
  match a with
  | ⟨0, _⟩ => show (x 0).val = 0 + (x 0).val; omega
  | ⟨1, _⟩ => show (x 1).val = 0 + (x 1).val; omega
  | ⟨2, _⟩ => show (x 2).val = 0 + (x 2).val; omega
  | ⟨3, _⟩ => show (x 3).val = 0 + (x 3).val; omega

end

/-! ## What a step writes -/

/-- A load's rectangle of a block. -/
def rdBlk {S : Shape} {α : EltTy} (r : LoadRect S) (b : S.Idx → Elt F α) : r.shape.Idx → Elt F α := fun x => b (r.idx x)

/-- The routing weights of the tokens of a step's four sequences. -/
def outVals (b2 : S4x1x1x2048.Idx → Elt F .i32) (b3 : S4x1x1x2048.Idx → Elt F .f32) : FVec F S1024x1 .f32 :=
  k0_pay10 (iota .tc S256x2048 32 [0] iota_S256x2048_d0_w32)
    (k0_pay8 (rdBlk (α := .i32) (Rect.unit (s := S4x1x1x2048) ![0, 0, 0, 0] S1x1x1x2048.size inb_S4x1x1x2048_S1x1x1x2048_0_0_0_0).toLoadRect b2)
      (rdBlk (α := .f32) (Rect.unit (s := S4x1x1x2048) ![0, 0, 0, 0] S1x1x1x2048.size inb_S4x1x1x2048_S1x1x1x2048_0_0_0_0).toLoadRect b3))
    (k0_pay9 (F := F) (rdBlk (α := .i32) (Rect.unit (s := S4x1x1x2048) ![1, 0, 0, 0] S1x1x1x2048.size inb_S4x1x1x2048_S1x1x1x2048_1_0_0_0).toLoadRect b2))
    (rdBlk (α := .f32) (Rect.unit (s := S4x1x1x2048) ![1, 0, 0, 0] S1x1x1x2048.size inb_S4x1x1x2048_S1x1x1x2048_1_0_0_0).toLoadRect b3)
    (rdBlk (α := .i32) (Rect.unit (s := S4x1x1x2048) ![2, 0, 0, 0] S1x1x1x2048.size inb_S4x1x1x2048_S1x1x1x2048_2_0_0_0).toLoadRect b2)
    (rdBlk (α := .f32) (Rect.unit (s := S4x1x1x2048) ![2, 0, 0, 0] S1x1x1x2048.size inb_S4x1x1x2048_S1x1x1x2048_2_0_0_0).toLoadRect b3)
    (rdBlk (α := .i32) (Rect.unit (s := S4x1x1x2048) ![3, 0, 0, 0] S1x1x1x2048.size inb_S4x1x1x2048_S1x1x1x2048_3_0_0_0).toLoadRect b2)
    (rdBlk (α := .f32) (Rect.unit (s := S4x1x1x2048) ![3, 0, 0, 0] S1x1x1x2048.size inb_S4x1x1x2048_S1x1x1x2048_3_0_0_0).toLoadRect b3)

/-- The block a step of expert `e` writes, from its input blocks and the three weights. -/
def outBlk (e : Fin 16) (b2 : S4x1x1x2048.Idx → Elt F .i32) (b3 : S4x1x1x2048.Idx → Elt F .f32) (b4 : S4x1x256x1024.Idx → Elt F .bf16)
    (X5 X6 : S16x1024x2048.Idx → F .f32) (X7 : S16x2048x1024.Idx → F .f32) : FVec F S4x1x256x1024 .bf16 :=
  k0_pay1 (k0_pay11 (outVals b2 b3)
    (rdBlk (α := .bf16) (Rect.unit ![0, 0, 0, 0] S4x1x256x1024.size inb_S4x1x256x1024_S4x1x256x1024_0_0_0_0).toLoadRect b4)
    (blkW (K1 := 1024) (K2 := 1024) 0 0 (by decide) (by decide) X5 e) (blkW (K1 := 1024) (K2 := 1024) 0 0 (by decide) (by decide) X6 e)
    (blkW (K1 := 1024) (K2 := 1024) 0 0 (by decide) (by decide) X7 e) (blkW (K1 := 1024) (K2 := 1024) 0 1024 (by decide) (by decide) X5 e)
    (blkW (K1 := 1024) (K2 := 1024) 0 1024 (by decide) (by decide) X6 e) (blkW (K1 := 1024) (K2 := 1024) 1024 0 (by decide) (by decide) X7 e))

/-! ## The offsets that depend on the slot -/

theorem off5_eq : ∀ i : grid0.Coords, k0_off5 i = ![(i 0).val % 2, 0, 0] := by decide +kernel
theorem off6_eq : ∀ i : grid0.Coords, k0_off6 i = ![(i 0).val % 2, 0, 0] := by decide +kernel
theorem off7_eq : ∀ i : grid0.Coords, k0_off7 i = ![(i 0).val % 2, 0, 1024] := by decide +kernel
theorem off8_eq : ∀ i : grid0.Coords, k0_off8 i = ![(i 0).val % 2, 1024, 0] := by decide +kernel
theorem off11_eq : ∀ i : grid0.Coords, k0_off11 i = ![1 - (i 0).val % 2, 256 * (i 1).val, 0] := by decide +kernel
theorem off12_eq : ∀ i : grid0.Coords, k0_off12 i = ![1 - (i 0).val % 2, 512 * (i 1).val, 0] := by decide +kernel

theorem cond1_iff : ∀ i : grid0.Coords, k0_cond1 i = 1#1 ↔ (i 0).val = 0 ∧ (i 1).val = 0 := by decide +kernel
theorem cond2_iff : ∀ i : grid0.Coords, k0_cond2 i = 1#1 ↔ (i 0).val < 15 := by decide +kernel
theorem cond3_iff : ∀ i : grid0.Coords, k0_cond3 i = 1#1 ↔ 4 * (i 0).val + (i 1).val < 59 := by decide +kernel

end Cert.KernelIdeal.Ffn

end
-- ==== Proof.Ffn.Run.lean ====
module

public import proofs.«01_k».proof.Proof.Ffn.Pure

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev gSl (M : Memref sig .tc .hbm S16x1024x2048 .f32) (o : Fin 3 → ℕ) (h : ∀ a, o a + S1x256x2048.size a ≤ S16x1024x2048.size a) :
    Memref sig .tc .hbm S256x2048 .f32 :=
  (M.slice (Rect.unit (s := S16x1024x2048) o S1x256x2048.size h) (fun _ => rfl)).squeeze S256x2048 squeezes_S1x256x2048_S256x2048
abbrev dSl (M : Memref sig .tc .hbm S16x2048x1024 .f32) (o : Fin 3 → ℕ) (h : ∀ a, o a + S1x512x1024.size a ≤ S16x2048x1024.size a) :
    Memref sig .tc .hbm S512x1024 .f32 :=
  (M.slice (Rect.unit (s := S16x2048x1024) o S1x512x1024.size h) (fun _ => rfl)).squeeze S512x1024 squeezes_S1x512x1024_S512x1024

/-- A chunk of a gate or up weight in flight into its buffer, and the rest of the weight. -/
abbrev FlyG (c : Dev nD) (sm : DmaSem sig) (dst : Memref sig .tc .vmem S256x2048 .f32) (M : Memref sig .tc .hbm S16x1024x2048 .f32)
    (X : Cont (F := F) c M) (o : Fin 3 → ℕ) (h : ∀ a, o a + S1x256x2048.size a ≤ S16x1024x2048.size a) (g : Cont (F := F) c dst) : sProp 𝕄 :=
  iprop(Transfers.Flight (countersEmb (U := Pipeline.UD sig nD τ)) (c : Thread nD τ) (.dma sm) () 65536
      iprop((dst.view.loc (c : Thread nD τ) ↦[dst.view.set]{fullShare} g) ∗ ((gSl M o h).view.loc (c : Thread nD τ) ↦[(gSl M o h).view.set]{fullShare} X)))
abbrev RestG (c : Dev nD) (M : Memref sig .tc .hbm S16x1024x2048 .f32)
    (X : Cont (F := F) c M) (o : Fin 3 → ℕ) (h : ∀ a, o a + S1x256x2048.size a ≤ S16x1024x2048.size a) : sProp 𝕄 :=
  iprop(M.view.loc (c : Thread nD τ) ↦[Finset.univ \ (gSl M o h).view.set]{fullShare} X)
abbrev FlyD (c : Dev nD) (sm : DmaSem sig) (dst : Memref sig .tc .vmem S512x1024 .f32) (M : Memref sig .tc .hbm S16x2048x1024 .f32)
    (X : Cont (F := F) c M) (o : Fin 3 → ℕ) (h : ∀ a, o a + S1x512x1024.size a ≤ S16x2048x1024.size a) (g : Cont (F := F) c dst) : sProp 𝕄 :=
  iprop(Transfers.Flight (countersEmb (U := Pipeline.UD sig nD τ)) (c : Thread nD τ) (.dma sm) () 65536
      iprop((dst.view.loc (c : Thread nD τ) ↦[dst.view.set]{fullShare} g) ∗ ((dSl M o h).view.loc (c : Thread nD τ) ↦[(dSl M o h).view.set]{fullShare} X)))
abbrev RestD (c : Dev nD) (M : Memref sig .tc .hbm S16x2048x1024 .f32)
    (X : Cont (F := F) c M) (o : Fin 3 → ℕ) (h : ∀ a, o a + S1x512x1024.size a ≤ S16x2048x1024.size a) : sProp 𝕄 :=
  iprop(M.view.loc (c : Thread nD τ) ↦[Finset.univ \ (dSl M o h).view.set]{fullShare} X)

abbrev bodyOf (i : grid0.Coords) (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole) : Prog (TpuEff nD τ sig (Elt F) Λ₀ .tc) PUnit :=
  cc0_expert_ffn i arg2 harg2 arg3 harg3 arg4 harg4 hgM (Memref.isWhole_whole _) huM (Memref.isWhole_whole _) hdM (Memref.isWhole_whole _)
    arg8 harg8 wgM (Memref.isWhole_whole _) wuM (Memref.isWhole_whole _) wdM (Memref.isWhole_whole _) sgM (Memref.isWhole_whole _)
    suM (Memref.isWhole_whole _) sdM (Memref.isWhole_whole _) cc0_scratch6

theorem restG (c : Dev nD) {X : Cont (F := F) c hgM} {I : Finset _} :
    (hgM.view.loc (c : Thread nD τ) ↦[hgM.view.set \ I]{fullShare} X : sProp 𝕄) ⊢ hgM.view.loc (c : Thread nD τ) ↦[Finset.univ \ I]{fullShare} X := by
  rw [show hgM.view.set = Finset.univ from View.set_whole _]
theorem restU (c : Dev nD) {X : Cont (F := F) c huM} {I : Finset _} :
    (huM.view.loc (c : Thread nD τ) ↦[huM.view.set \ I]{fullShare} X : sProp 𝕄) ⊢ huM.view.loc (c : Thread nD τ) ↦[Finset.univ \ I]{fullShare} X := by
  rw [show huM.view.set = Finset.univ from View.set_whole _]
theorem restD (c : Dev nD) {X : Cont (F := F) c hdM} {I : Finset _} :
    (hdM.view.loc (c : Thread nD τ) ↦[hdM.view.set \ I]{fullShare} X : sProp 𝕄) ⊢ hdM.view.loc (c : Thread nD τ) ↦[Finset.univ \ I]{fullShare} X := by
  rw [show hdM.view.set = Finset.univ from View.set_whole _]
theorem backG (c : Dev nD) {X : Cont (F := F) c hgM} :
    (hgM.view.loc (c : Thread nD τ) ↦{fullShare} X : sProp 𝕄) ⊢ hgM.view.loc (c : Thread nD τ) ↦[hgM.view.set]{fullShare} X := by
  rw [show hgM.view.set = Finset.univ from View.set_whole _]
theorem backU (c : Dev nD) {X : Cont (F := F) c huM} :
    (huM.view.loc (c : Thread nD τ) ↦{fullShare} X : sProp 𝕄) ⊢ huM.view.loc (c : Thread nD τ) ↦[huM.view.set]{fullShare} X := by
  rw [show huM.view.set = Finset.univ from View.set_whole _]
theorem backD (c : Dev nD) {X : Cont (F := F) c hdM} :
    (hdM.view.loc (c : Thread nD τ) ↦{fullShare} X : sProp 𝕄) ⊢ hdM.view.loc (c : Thread nD τ) ↦[hdM.view.set]{fullShare} X := by
  rw [show hdM.view.set = Finset.univ from View.set_whole _]

/-- A buffer's elements held whole. -/
abbrev pts (c : Dev nD) {sp : Space} {S : Shape} {e : EltTy} (M : Memref sig .tc sp S e) (f : Cont (F := F) c M) : sProp 𝕄 :=
  M.view.loc (c : Thread nD τ) ↦[M.view.set]{fullShare} f

/-- The two-slot copies before step `t`. -/
def Slots3 (c : Dev nD) (t : ℕ) (X5 : Cont (F := F) c hgM) (X6 : Cont (F := F) c huM) (X7 : Cont (F := F) c hdM) : sProp 𝕄 :=
  iprop(∃ x9 x10 x11, ⌜Slots 256 t (hgM.view.read (Elt F) X5) (wgM.view.read (Elt F) x9) ∧ Slots 256 t (huM.view.read (Elt F) X6) (wuM.view.read (Elt F) x10)
      ∧ Slots 512 t (hdM.view.read (Elt F) X7) (wdM.view.read (Elt F) x11)⌝
    ∗ pts c wgM x9 ∗ pts c wuM x10 ∗ pts c wdM x11)

/-- The three chunks step `t` waits for, in flight. -/
def Fly3 (c : Dev nD) (t : ℕ) (X5 : Cont (F := F) c hgM) (X6 : Cont (F := F) c huM) (X7 : Cont (F := F) c hdM) : sProp 𝕄 :=
  iprop((∃ o ho g, ⌜GoodS (t / 4 + 1) (256 * (t % 4)) (hgM.view.read (Elt F) X5) (sgM.view.read (Elt F) g)⌝ ∗ FlyG c 8 sgM hgM X5 o ho g ∗ RestG c hgM X5 o ho)
    ∗ (∃ o ho g, ⌜GoodS (t / 4 + 1) (256 * (t % 4)) (huM.view.read (Elt F) X6) (suM.view.read (Elt F) g)⌝ ∗ FlyG c 9 suM huM X6 o ho g ∗ RestG c huM X6 o ho)
    ∗ (∃ o ho g, ⌜GoodS (t / 4 + 1) (512 * (t % 4)) (hdM.view.read (Elt F) X7) (sdM.view.read (Elt F) g)⌝ ∗ FlyD c 10 sdM hdM X7 o ho g ∗ RestD c hdM X7 o ho))

/-- No chunk in flight. -/
def Idle3 (c : Dev nD) (X5 : Cont (F := F) c hgM) (X6 : Cont (F := F) c huM) (X7 : Cont (F := F) c hdM) : sProp 𝕄 :=
  iprop(((∃ g, pts c sgM g) ∗ (∃ g, pts c suM g) ∗ (∃ g, pts c sdM g))
    ∗ (semVal ((c : Thread nD τ), SemLoc.dma 8) 0 ∗ semVal ((c : Thread nD τ), SemLoc.dma 9) 0 ∗ semVal ((c : Thread nD τ), SemLoc.dma 10) 0)
    ∗ (held c hgM X5 ∗ held c huM X6 ∗ held c hdM X7))

/-- A step's windows after it: the inputs as they were, the output holding the step's block. -/
def WinsPost (c : Dev nD) (e : Fin 16) (arg2 : Memref sig .tc .vmem S4x1x1x2048 .i32)
    (arg3 : Memref sig .tc .vmem S4x1x1x2048 .f32) (arg4 : Memref sig .tc .vmem S4x1x256x1024 .bf16)
    (arg8 : Memref sig .tc .vmem S4x1x256x1024 .bf16)
    (f2 : Cont (F := F) c arg2) (f3 : Cont (F := F) c arg3) (f4 : Cont (F := F) c arg4)
    (X5 : Cont (F := F) c hgM) (X6 : Cont (F := F) c huM) (X7 : Cont (F := F) c hdM) : sProp 𝕄 :=
  iprop(pts c arg2 f2 ∗ pts c arg3 f3 ∗ pts c arg4 f4
    ∗ (∃ f8, ⌜arg8.view.read (Elt F) f8 = outBlk e (arg2.view.read (Elt F) f2) (arg3.view.read (Elt F) f3) (arg4.view.read (Elt F) f4)
        (hgM.view.read (Elt F) X5) (huM.view.read (Elt F) X6) (hdM.view.read (Elt F) X7)⌝ ∗ pts c arg8 f8))

/-- What the body's one store leaves in the output window, read back. -/
theorem out_read (c : Dev nD) (i : grid0.Coords) (t : ℕ) (ht : t = 4 * (i 0).val + (i 1).val)
    (arg2 : Memref sig .tc .vmem S4x1x1x2048 .i32)
    (arg3 : Memref sig .tc .vmem S4x1x1x2048 .f32) (arg4 : Memref sig .tc .vmem S4x1x256x1024 .bf16)
    (arg8 : Memref sig .tc .vmem S4x1x256x1024 .bf16)
    (f2 : Cont (F := F) c arg2) (f3 : Cont (F := F) c arg3) (f4 : Cont (F := F) c arg4) (f8 : Cont (F := F) c arg8)
    (X5 : Cont (F := F) c hgM) (X6 : Cont (F := F) c huM) (X7 : Cont (F := F) c hdM)
    (x9 : Cont (F := F) c wgM) (x10 : Cont (F := F) c wuM) (x11 : Cont (F := F) c wdM)
    (h9 : Slots 256 t (hgM.view.read (Elt F) X5) (wgM.view.read (Elt F) x9)) (h10 : Slots 256 t (huM.view.read (Elt F) X6) (wuM.view.read (Elt F) x10))
    (h11 : Slots 512 t (hdM.view.read (Elt F) X7) (wdM.view.read (Elt F) x11)) :
    arg8.view.read (Elt F) (arg8.view.writes (Elt F) f8
      [⟨Rect.unit (s := S4x1x256x1024) ![0, 0, 0, 0] S4x1x256x1024.size inb_S4x1x256x1024_S4x1x256x1024_0_0_0_0,
        k0_pay1 (k0_pay11
              (k0_pay10 (iota .tc S256x2048 32 [0] iota_S256x2048_d0_w32)
                (k0_pay8 (View.readAt (Elt F) arg2.view
                  (Rect.unit (s := S4x1x1x2048) ![0, 0, 0, 0] S1x1x1x2048.size inb_S4x1x1x2048_S1x1x1x2048_0_0_0_0).toLoadRect f2)
                  (View.readAt (Elt F) arg3.view
                  (Rect.unit (s := S4x1x1x2048) ![0, 0, 0, 0] S1x1x1x2048.size inb_S4x1x1x2048_S1x1x1x2048_0_0_0_0).toLoadRect f3))
                (k0_pay9 (F := F) (View.readAt (Elt F) arg2.view
                  (Rect.unit (s := S4x1x1x2048) ![1, 0, 0, 0] S1x1x1x2048.size inb_S4x1x1x2048_S1x1x1x2048_1_0_0_0).toLoadRect f2))
                (View.readAt (Elt F) arg3.view
                  (Rect.unit (s := S4x1x1x2048) ![1, 0, 0, 0] S1x1x1x2048.size inb_S4x1x1x2048_S1x1x1x2048_1_0_0_0).toLoadRect f3)
                (View.readAt (Elt F) arg2.view
                  (Rect.unit (s := S4x1x1x2048) ![2, 0, 0, 0] S1x1x1x2048.size inb_S4x1x1x2048_S1x1x1x2048_2_0_0_0).toLoadRect f2)
                (View.readAt (Elt F) arg3.view
                  (Rect.unit (s := S4x1x1x2048) ![2, 0, 0, 0] S1x1x1x2048.size inb_S4x1x1x2048_S1x1x1x2048_2_0_0_0).toLoadRect f3)
                (View.readAt (Elt F) arg2.view
                  (Rect.unit (s := S4x1x1x2048) ![3, 0, 0, 0] S1x1x1x2048.size inb_S4x1x1x2048_S1x1x1x2048_3_0_0_0).toLoadRect f2)
                (View.readAt (Elt F) arg3.view
                  (Rect.unit (s := S4x1x1x2048) ![3, 0, 0, 0] S1x1x1x2048.size inb_S4x1x1x2048_S1x1x1x2048_3_0_0_0).toLoadRect f3))
              (View.readAt (Elt F) arg4.view
                (Rect.unit (s := S4x1x256x1024) ![0, 0, 0, 0] S4x1x256x1024.size inb_S4x1x256x1024_S4x1x256x1024_0_0_0_0).toLoadRect f4)
              (View.readAt (Elt F) wgM.view (Rect.unit (s := S2x1024x2048) (k0_off5 i) S1x1024x1024.size (k0_off5_inb i)).toLoadRect x9)
              (View.readAt (Elt F) wuM.view (Rect.unit (s := S2x1024x2048) (k0_off5 i) S1x1024x1024.size (k0_off5_inb i)).toLoadRect x10)
              (View.readAt (Elt F) wdM.view (Rect.unit (s := S2x2048x1024) (k0_off6 i) S1x1024x1024.size (k0_off6_inb i)).toLoadRect x11)
              (View.readAt (Elt F) wgM.view (Rect.unit (s := S2x1024x2048) (k0_off7 i) S1x1024x1024.size (k0_off7_inb i)).toLoadRect x9)
              (View.readAt (Elt F) wuM.view (Rect.unit (s := S2x1024x2048) (k0_off7 i) S1x1024x1024.size (k0_off7_inb i)).toLoadRect x10)
              (View.readAt (Elt F) wdM.view (Rect.unit (s := S2x2048x1024) (k0_off8 i) S1x1024x1024.size (k0_off8_inb i)).toLoadRect x11))⟩])
      = outBlk (i 0) (arg2.view.read (Elt F) f2) (arg3.view.read (Elt F) f3) (arg4.view.read (Elt F) f4)
        (hgM.view.read (Elt F) X5) (huM.view.read (Elt F) X6) (hdM.view.read (Elt F) X7) := by
  have hb : (i 1).val < 4 := (i 1).isLt
  refine (read_writes_all4 arg8.view f8 _ _).trans ?_
  rw [GoodW.load (K1 := 1024) (K2 := 1024) wgM.view x9 (off5_eq i) (k0_off5_inb i) _ (by decide) (by decide) (Slots.cur (i 0) hb ht h9),
    GoodW.load (K1 := 1024) (K2 := 1024) wuM.view x10 (off5_eq i) (k0_off5_inb i) _ (by decide) (by decide) (Slots.cur (i 0) hb ht h10),
    GoodW.load (K1 := 1024) (K2 := 1024) wdM.view x11 (off6_eq i) (k0_off6_inb i) _ (by decide) (by decide) (Slots.cur (i 0) hb ht h11),
    GoodW.load (K1 := 1024) (K2 := 1024) wgM.view x9 (off7_eq i) (k0_off7_inb i) _ (by decide) (by decide) (Slots.cur (i 0) hb ht h9),
    GoodW.load (K1 := 1024) (K2 := 1024) wuM.view x10 (off7_eq i) (k0_off7_inb i) _ (by decide) (by decide) (Slots.cur (i 0) hb ht h10),
    GoodW.load (K1 := 1024) (K2 := 1024) wdM.view x11 (off8_eq i) (k0_off8_inb i) _ (by decide) (by decide) (Slots.cur (i 0) hb ht h11)]
  rfl

/-- The chunk the next step waits for is the one this step asks for. -/
theorem landG (c : Dev nD) (i : grid0.Coords) {t : ℕ} (ht : t = 4 * (i 0).val + (i 1).val) (hb : (i 1).val < 4)
    (M : Memref sig .tc .hbm S16x1024x2048 .f32) (X : Cont (F := F) c M) (D : Memref sig .tc .vmem S256x2048 .f32) (g : Cont (F := F) c D)
    {ho : ∀ a, k0_off13 i a + S1x256x2048.size a ≤ S16x1024x2048.size a} :
    GoodS ((t + 1) / 4 + 1) (256 * ((t + 1) % 4)) (M.view.read (Elt F) X)
      (D.view.read (Elt F) (D.view.writes (Elt F) g [⟨Rect.whole S256x2048, ReadAs.same.apply (View.read (Elt F) (gSl M (k0_off13 i) ho).view X)⟩])) := by
  rw [read_writes_all]
  refine GoodS.slice (R := 1024) (C := 2048) (n := 256) M X ?_ ho squeezes_S1x256x2048_S256x2048
  rw [k0_off13_eq i]
  split
  · rw [show (i 0).val + 2 = (t + 1) / 4 + 1 by omega, show (t + 1) % 4 = 0 by omega]
  · rw [show (i 0).val + 1 = (t + 1) / 4 + 1 by omega, show (i 1).val + 1 = (t + 1) % 4 by omega]
theorem landD (c : Dev nD) (i : grid0.Coords) {t : ℕ} (ht : t = 4 * (i 0).val + (i 1).val) (hb : (i 1).val < 4)
    (M : Memref sig .tc .hbm S16x2048x1024 .f32) (X : Cont (F := F) c M) (D : Memref sig .tc .vmem S512x1024 .f32) (g : Cont (F := F) c D)
    {ho : ∀ a, k0_off14 i a + S1x512x1024.size a ≤ S16x2048x1024.size a} :
    GoodS ((t + 1) / 4 + 1) (512 * ((t + 1) % 4)) (M.view.read (Elt F) X)
      (D.view.read (Elt F) (D.view.writes (Elt F) g [⟨Rect.whole S512x1024, ReadAs.same.apply (View.read (Elt F) (dSl M (k0_off14 i) ho).view X)⟩])) := by
  rw [read_writes_all]
  refine GoodS.slice (R := 2048) (C := 1024) (n := 512) M X ?_ ho squeezes_S1x512x1024_S512x1024
  rw [k0_off14_eq i]
  split
  · rw [show (i 0).val + 2 = (t + 1) / 4 + 1 by omega, show (t + 1) % 4 = 0 by omega]
  · rw [show (i 0).val + 1 = (t + 1) / 4 + 1 by omega, show (i 1).val + 1 = (t + 1) % 4 by omega]
theorem goodAt {R C n k e b t : ℕ} {X : (⟨3, ![16, R, C]⟩ : Shape).Idx → F .f32} {g : (⟨2, ![n, C]⟩ : Shape).Idx → F .f32}
    (ht : t = 4 * e + b) (hb : b < 4) (h : GoodS (t / 4 + 1) (k * (t % 4)) X g) : GoodS (e + 1) (k * b) X g := by
  rwa [show t / 4 = e by omega, show t % 4 = b by omega] at h

set_option maxHeartbeats 4000000 in
/-- A step between: the chunks asked for before it are waited for and stored, the next are asked for. -/
theorem run_mid (c : Dev nD) (i : grid0.Coords) (h1 : ¬ k0_cond1 i = 1#1) (h2 : k0_cond2 i = 1#1) (h3 : k0_cond3 i = 1#1) (t : ℕ) (ht : t = 4 * (i 0).val + (i 1).val)
    (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole)
    (f2 : Cont (F := F) c arg2) (f3 : Cont (F := F) c arg3) (f4 : Cont (F := F) c arg4)
    (X5 : Cont (F := F) c hgM) (X6 : Cont (F := F) c huM) (X7 : Cont (F := F) c hdM) :
    iprop((pts c arg2 f2 ∗ pts c arg3 f3 ∗ pts c arg4 f4 ∗ (∃ f, pts c arg8 f))
        ∗ Slots3 c t X5 X6 X7 ∗ Fly3 c t X5 X6 X7 ∗ (∃ W, owes (c : Thread nD τ) 0 W))
      ⊢ wp frame (wpE (defs₀ (F := F)) Variants.none c none) Set.univ (bodyOf i arg2 harg2 arg3 harg3 arg4 harg4 arg8 harg8)
        (fun _ => iprop(WinsPost c (i 0) arg2 arg3 arg4 arg8 f2 f3 f4 X5 X6 X7 ∗ Slots3 c (t + 1) X5 X6 X7 ∗ Fly3 c (t + 1) X5 X6 X7 ∗ (∃ W, owes (c : Thread nD τ) 0 W))) := by
  have hb : (i 1).val < 4 := (i 1).isLt
  unfold bodyOf; rw [cc0_expert_ffn_eq_skeleton]; unfold cc0_expert_ffn_skel
  unfold Slots3 Fly3 WinsPost
  iintro ⟨⟨H2, H3, H4, ⟨%f8, H8⟩⟩, ⟨%x9, %x10, %x11, %hx, H9, H10, H11⟩, ⟨⟨%o5, %ho5, %g5, %hg5, F5, R5⟩, ⟨%o6, %ho6, %g6, %hg6, F6, R6⟩, ⟨%o7, %ho7, %g7, %hg7, F7, R7⟩⟩, ⟨%W, HO⟩⟩
  sl_exec
  ihave R5 := (backG c) $$ R5
  ihave R6 := (backU c) $$ R6
  ihave R7 := (backD c) $$ R7
  sl_exec
  sl_step
  delta run_mid.sl.dma0 run_mid.sl.dma0_1 run_mid.sl.dma0_2 run_mid.sl.r_3 run_mid.sl.r_2 run_mid.sl.r_1 run_mid.sl.r run_mid.sl.v15
  have hr5 := readAt_all2 (n0 := 256) (n1 := 2048) sgM.view g5 inb_S256x2048_S256x2048_0_0
  have hr6 := readAt_all2 (n0 := 256) (n1 := 2048) suM.view g6 inb_S256x2048_S256x2048_0_0
  have hr7 := readAt_all2 (n0 := 512) (n1 := 1024) sdM.view g7 inb_S512x1024_S512x1024_0_0
  have hs5 := goodAt ht hb hg5; rw [← hr5] at hs5
  have hs6 := goodAt ht hb hg6; rw [← hr6] at hs6
  have hs7 := goodAt ht hb hg7; rw [← hr7] at hs7

  isplitl [H2 H3 H4 H8]
  · isplitl [H2]; · iexact H2
    isplitl [H3]; · iexact H3
    isplitl [H4]; · iexact H4
    iexists _; isplitr
    swap; · iexact H8
    ipureintro; exact out_read c i t ht arg2 arg3 arg4 arg8 f2 f3 f4 f8 X5 X6 X7 x9 x10 x11 hx.1 hx.2.1 hx.2.2
  isplitl [H9 H10 H11]
  · iexists _, _, _; isplitr
    swap
    · isplitl [H9]; · iexact H9
      isplitl [H10]; · iexact H10
      iexact H11
    ipureintro
    exact ⟨Slots.next wgM.view x9 rfl hb ht (off11_eq i) _ _ _ hs5 _ hx.1,
        Slots.next wuM.view x10 rfl hb ht (off11_eq i) _ _ _ hs6 _ hx.2.1,
        Slots.next wdM.view x11 rfl hb ht (off12_eq i) _ _ _ hs7 _ hx.2.2⟩
  isplitl [F5 R5 F6 R6 F7 R7]
  · isplitl [F5 R5]
    · iexists k0_off13 i, (k0_off13_inb i h3), sgM.view.writes (Elt F) g5 [⟨Rect.whole S256x2048, ReadAs.same.apply (View.read (Elt F) (gSl hgM (k0_off13 i) (k0_off13_inb i h3)).view X5)⟩]
      isplitr
      swap; isplitl [F5]; · iexact F5
      iapply (restG c) $$ R5
      ipureintro; exact landG c i ht hb hgM X5 sgM _
    isplitl [F6 R6]
    · iexists k0_off13 i, (k0_off13_inb i h3), suM.view.writes (Elt F) g6 [⟨Rect.whole S256x2048, ReadAs.same.apply (View.read (Elt F) (gSl huM (k0_off13 i) (k0_off13_inb i h3)).view X6)⟩]
      isplitr
      swap; isplitl [F6]; · iexact F6
      iapply (restU c) $$ R6
      ipureintro; exact landG c i ht hb huM X6 suM _
    · iexists k0_off14 i, (k0_off14_inb i h3), sdM.view.writes (Elt F) g7 [⟨Rect.whole S512x1024, ReadAs.same.apply (View.read (Elt F) (dSl hdM (k0_off14 i) (k0_off14_inb i h3)).view X7)⟩]
      isplitr
      swap; isplitl [F7]; · iexact F7
      iapply (restD c) $$ R7
      ipureintro; exact landD c i ht hb hdM X7 sdM _
  iexists _; iexact HO

set_option maxHeartbeats 4000000 in
/-- The step that waits for the last chunks: none are asked for after it. -/
theorem run_lastWait (c : Dev nD) (i : grid0.Coords) (h1 : ¬ k0_cond1 i = 1#1) (h2 : k0_cond2 i = 1#1) (h3 : ¬ k0_cond3 i = 1#1) (t : ℕ) (ht : t = 4 * (i 0).val + (i 1).val)
    (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole)
    (f2 : Cont (F := F) c arg2) (f3 : Cont (F := F) c arg3) (f4 : Cont (F := F) c arg4)
    (X5 : Cont (F := F) c hgM) (X6 : Cont (F := F) c huM) (X7 : Cont (F := F) c hdM) :
    iprop((pts c arg2 f2 ∗ pts c arg3 f3 ∗ pts c arg4 f4 ∗ (∃ f, pts c arg8 f))
        ∗ Slots3 c t X5 X6 X7 ∗ Fly3 c t X5 X6 X7 ∗ (∃ W, owes (c : Thread nD τ) 0 W))
      ⊢ wp frame (wpE (defs₀ (F := F)) Variants.none c none) Set.univ (bodyOf i arg2 harg2 arg3 harg3 arg4 harg4 arg8 harg8)
        (fun _ => iprop(WinsPost c (i 0) arg2 arg3 arg4 arg8 f2 f3 f4 X5 X6 X7 ∗ Slots3 c (t + 1) X5 X6 X7 ∗ Idle3 c X5 X6 X7 ∗ (∃ W, owes (c : Thread nD τ) 0 W))) := by
  have hb : (i 1).val < 4 := (i 1).isLt
  unfold bodyOf; rw [cc0_expert_ffn_eq_skeleton]; unfold cc0_expert_ffn_skel
  unfold Slots3 Fly3 Idle3 WinsPost
  iintro ⟨⟨H2, H3, H4, ⟨%f8, H8⟩⟩, ⟨%x9, %x10, %x11, %hx, H9, H10, H11⟩, ⟨⟨%o5, %ho5, %g5, %hg5, F5, R5⟩, ⟨%o6, %ho6, %g6, %hg6, F6, R6⟩, ⟨%o7, %ho7, %g7, %hg7, F7, R7⟩⟩, ⟨%W, HO⟩⟩
  sl_exec
  sl_step
  delta run_lastWait.sl.r_3 run_lastWait.sl.r_2 run_lastWait.sl.r_1 run_lastWait.sl.r run_lastWait.sl.v15
  have hr5 := readAt_all2 (n0 := 256) (n1 := 2048) sgM.view g5 inb_S256x2048_S256x2048_0_0
  have hr6 := readAt_all2 (n0 := 256) (n1 := 2048) suM.view g6 inb_S256x2048_S256x2048_0_0
  have hr7 := readAt_all2 (n0 := 512) (n1 := 1024) sdM.view g7 inb_S512x1024_S512x1024_0_0
  have hs5 := goodAt ht hb hg5; rw [← hr5] at hs5
  have hs6 := goodAt ht hb hg6; rw [← hr6] at hs6
  have hs7 := goodAt ht hb hg7; rw [← hr7] at hs7

  isplitl [H2 H3 H4 H8]
  · isplitl [H2]; · iexact H2
    isplitl [H3]; · iexact H3
    isplitl [H4]; · iexact H4
    iexists _; isplitr
    swap; · iexact H8
    ipureintro; exact out_read c i t ht arg2 arg3 arg4 arg8 f2 f3 f4 f8 X5 X6 X7 x9 x10 x11 hx.1 hx.2.1 hx.2.2
  isplitl [H9 H10 H11]
  · iexists _, _, _; isplitr
    swap
    · isplitl [H9]; · iexact H9
      isplitl [H10]; · iexact H10
      iexact H11
    ipureintro
    exact ⟨Slots.next wgM.view x9 rfl hb ht (off11_eq i) _ _ _ hs5 _ hx.1,
        Slots.next wuM.view x10 rfl hb ht (off11_eq i) _ _ _ hs6 _ hx.2.1,
        Slots.next wdM.view x11 rfl hb ht (off12_eq i) _ _ _ hs7 _ hx.2.2⟩
  isplitl [F5_dst F6_dst F7_dst F5 F6 F7 R5 R6 R7]
  · isplitl [F5_dst F6_dst F7_dst]
    · isplitl [F5_dst]; · iexists _; iexact F5_dst
      isplitl [F6_dst]; · iexists _; iexact F6_dst
      iexists _; iexact F7_dst
    isplitl [F5 F6 F7]
    · isplitl [F5]; · iexact F5
      isplitl [F6]; · iexact F6
      iexact F7
    isplitl [R5]; · iexact R5
    isplitl [R6]; · iexact R6
    iexact R7
  iexists _; iexact HO

set_option maxHeartbeats 4000000 in
/-- A step of the last expert: no chunk is in flight. -/
theorem run_idle (c : Dev nD) (i : grid0.Coords) (h1 : ¬ k0_cond1 i = 1#1) (h2 : ¬ k0_cond2 i = 1#1) (h3 : ¬ k0_cond3 i = 1#1) (t : ℕ) (ht : t = 4 * (i 0).val + (i 1).val)
    (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole)
    (f2 : Cont (F := F) c arg2) (f3 : Cont (F := F) c arg3) (f4 : Cont (F := F) c arg4)
    (X5 : Cont (F := F) c hgM) (X6 : Cont (F := F) c huM) (X7 : Cont (F := F) c hdM) :
    iprop((pts c arg2 f2 ∗ pts c arg3 f3 ∗ pts c arg4 f4 ∗ (∃ f, pts c arg8 f))
        ∗ Slots3 c t X5 X6 X7 ∗ Idle3 c X5 X6 X7 ∗ (∃ W, owes (c : Thread nD τ) 0 W))
      ⊢ wp frame (wpE (defs₀ (F := F)) Variants.none c none) Set.univ (bodyOf i arg2 harg2 arg3 harg3 arg4 harg4 arg8 harg8)
        (fun _ => iprop(WinsPost c (i 0) arg2 arg3 arg4 arg8 f2 f3 f4 X5 X6 X7 ∗ Slots3 c (t + 1) X5 X6 X7 ∗ Idle3 c X5 X6 X7 ∗ (∃ W, owes (c : Thread nD τ) 0 W))) := by
  have hb : (i 1).val < 4 := (i 1).isLt
  unfold bodyOf; rw [cc0_expert_ffn_eq_skeleton]; unfold cc0_expert_ffn_skel
  unfold Slots3 WinsPost
  iintro ⟨⟨H2, H3, H4, ⟨%f8, H8⟩⟩, ⟨%x9, %x10, %x11, %hx, H9, H10, H11⟩, HI, ⟨%W, HO⟩⟩
  sl_exec
  sl_step
  delta run_idle.sl.r_3 run_idle.sl.r_2 run_idle.sl.r_1 run_idle.sl.r run_idle.sl.v15
  have ht15 : t = 4 * 15 + (i 1).val := by have := (cond2_iff i).not.mp h2; have h15 : (i 0).val < 16 := (i 0).isLt; omega
  isplitl [H2 H3 H4 H8]
  · isplitl [H2]; · iexact H2
    isplitl [H3]; · iexact H3
    isplitl [H4]; · iexact H4
    iexists _; isplitr
    swap; · iexact H8
    ipureintro; exact out_read c i t ht arg2 arg3 arg4 arg8 f2 f3 f4 f8 X5 X6 X7 x9 x10 x11 hx.1 hx.2.1 hx.2.2
  isplitl [H9 H10 H11]
  · iexists _, _, _; isplitr
    swap
    · isplitl [H9]; · iexact H9
      isplitl [H10]; · iexact H10
      iexact H11
    ipureintro
    exact ⟨Slots.last rfl hb ht15 hx.1, Slots.last rfl hb ht15 hx.2.1, Slots.last rfl hb ht15 hx.2.2⟩
  isplitl [HI]; · iexact HI
  iexists _; iexact HO

end Cert.KernelIdeal.Ffn

end
-- ==== Proof.Ffn.Boot.lean ====
module

public import proofs.«01_k».proof.Proof.Ffn.Run

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Inside the loop that fills slot 0 with expert 0's weights: the first `p` rows of the gate and up weights and the first `q` of the
down weight are there. -/
def bootInv (c : Dev nD) (X5 : Cont (F := F) c hgM) (X6 : Cont (F := F) c huM) (X7 : Cont (F := F) c hdM) (p q : ℕ) : sProp 𝕄 :=
  iprop(held c hgM X5 ∗ held c huM X6 ∗ held c hdM X7
    ∗ (∃ f, pts c wgM f ∗ ⌜GoodW 0 0 p (hgM.view.read (Elt F) X5) (wgM.view.read (Elt F) f)⌝)
    ∗ (∃ f, pts c wuM f ∗ ⌜GoodW 0 0 p (huM.view.read (Elt F) X6) (wuM.view.read (Elt F) f)⌝)
    ∗ (∃ f, pts c wdM f ∗ ⌜GoodW 0 0 q (hdM.view.read (Elt F) X7) (wdM.view.read (Elt F) f)⌝)
    ∗ semVal ((c : Thread nD τ), SemLoc.dma 8) 0 ∗ semVal ((c : Thread nD τ), SemLoc.dma 9) 0 ∗ semVal ((c : Thread nD τ), SemLoc.dma 10) 0
    ∗ (∃ g, pts c sgM g) ∗ (∃ g, pts c suM g) ∗ (∃ g, pts c sdM g) ∗ (∃ W, owes (c : Thread nD τ) 0 W))

theorem btrips : k0_t1_loop.trips = 4 := by decide +kernel

/-- A chunk copied into its buffer whole, read back. -/
theorem gotG (c : Dev nD) {e o : ℕ} {off : Fin 3 → ℕ} (hoff : off = ![e, o, 0])
    (M : Memref sig .tc .hbm S16x1024x2048 .f32) (X : Cont (F := F) c M) (D : Memref sig .tc .vmem S256x2048 .f32) (g : Cont (F := F) c D)
    {ho : ∀ a, off a + S1x256x2048.size a ≤ S16x1024x2048.size a} :
    GoodS e o (M.view.read (Elt F) X)
      (D.view.read (Elt F) (D.view.writes (Elt F) g [⟨Rect.whole S256x2048, ReadAs.same.apply (View.read (Elt F) (gSl M off ho).view X)⟩])) := by
  rw [read_writes_all]
  exact GoodS.slice (R := 1024) (C := 2048) (n := 256) M X hoff ho squeezes_S1x256x2048_S256x2048
theorem gotD (c : Dev nD) {e o : ℕ} {off : Fin 3 → ℕ} (hoff : off = ![e, o, 0])
    (M : Memref sig .tc .hbm S16x2048x1024 .f32) (X : Cont (F := F) c M) (D : Memref sig .tc .vmem S512x1024 .f32) (g : Cont (F := F) c D)
    {ho : ∀ a, off a + S1x512x1024.size a ≤ S16x2048x1024.size a} :
    GoodS e o (M.view.read (Elt F) X)
      (D.view.read (Elt F) (D.view.writes (Elt F) g [⟨Rect.whole S512x1024, ReadAs.same.apply (View.read (Elt F) (dSl M off ho).view X)⟩])) := by
  rw [read_writes_all]
  exact GoodS.slice (R := 2048) (C := 1024) (n := 512) M X hoff ho squeezes_S1x512x1024_S512x1024

set_option maxHeartbeats 400000 in
/-- One trip of it: the next chunk of each weight comes in and is stored. -/
theorem boot_trip (c : Dev nD) (i : grid0.Coords)
    (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole) (h1 : k0_cond1 i = 1#1)
    (X5 : Cont (F := F) c hgM) (X6 : Cont (F := F) c huM) (X7 : Cont (F := F) c hdM) (k : Fin k0_t1_loop.trips) :
    bootInv c X5 X6 X7 (256 * k.val) (512 * k.val) ⊢ wp frame (wpE (defs₀ (F := F)) Variants.none c none) Set.univ
      (k0_t1_body i arg2 harg2 arg3 harg3 arg4 harg4
      hgM (Memref.isWhole_whole _) huM (Memref.isWhole_whole _) hdM (Memref.isWhole_whole _)
      arg8 harg8 wgM (Memref.isWhole_whole _) wuM (Memref.isWhole_whole _) wdM (Memref.isWhole_whole _) sgM (Memref.isWhole_whole _)
      suM (Memref.isWhole_whole _) sdM (Memref.isWhole_whole _) cc0_scratch6 h1 k ())
      (fun _ => bootInv c X5 X6 X7 (256 * k.val + 256) (512 * k.val + 512)) := by
  have hk : k.val < 4 := Nat.lt_of_lt_of_le k.isLt k0_t1_abs.2.1
  unfold k0_t1_body bootInv
  iintro ⟨R5, R6, R7, ⟨%f9, H9, %h9⟩, ⟨%f10, H10, %h10⟩, ⟨%f11, H11, %h11⟩, F5, F6, F7, ⟨%g5, G5⟩, ⟨%g6, G6⟩, ⟨%g7, G7⟩, ⟨%W, HO⟩⟩
  sl_exec
  sl_step
  delta boot_trip.sl.v172 boot_trip.sl.v178 boot_trip.sl.v184 boot_trip.sl.dma0 boot_trip.sl.dma0_1 boot_trip.sl.dma0_2
  isplitl [R5]; · iexact R5
  isplitl [R6]; · iexact R6
  isplitl [R7]; · iexact R7
  isplitl [H9]
  · iexists _; isplitl [H9]; · iexact H9
    ipureintro
    have hg := gotG c (k0_off1_eq k) hgM X5 sgM sgM.view.junk (ho := k0_off1_inb i k h1)
    have hr := readAt_all2 (n0 := 256) (n1 := 2048) sgM.view (sgM.view.writes (Elt F) sgM.view.junk [⟨Rect.whole S256x2048, ReadAs.same.apply (View.read (Elt F) (gSl hgM (k0_off1 k) (k0_off1_inb i k h1)).view X5)⟩]) inb_S256x2048_S256x2048_0_0
    rw [← hr] at hg
    unfold View.readCov
    exact GoodW.step (n := 256) wgM.view f9 (k0_off3_eq k) _ _ _ hg _ h9
  isplitl [H10]
  · iexists _; isplitl [H10]; · iexact H10
    ipureintro
    have hg := gotG c (k0_off1_eq k) huM X6 suM suM.view.junk (ho := k0_off1_inb i k h1)
    have hr := readAt_all2 (n0 := 256) (n1 := 2048) suM.view (suM.view.writes (Elt F) suM.view.junk [⟨Rect.whole S256x2048, ReadAs.same.apply (View.read (Elt F) (gSl huM (k0_off1 k) (k0_off1_inb i k h1)).view X6)⟩]) inb_S256x2048_S256x2048_0_0
    rw [← hr] at hg
    unfold View.readCov
    exact GoodW.step (n := 256) wuM.view f10 (k0_off3_eq k) _ _ _ hg _ h10
  isplitl [H11]
  · iexists _; isplitl [H11]; · iexact H11
    ipureintro
    have hg := gotD c (k0_off2_eq k) hdM X7 sdM sdM.view.junk (ho := k0_off2_inb i k h1)
    have hr := readAt_all2 (n0 := 512) (n1 := 1024) sdM.view (sdM.view.writes (Elt F) sdM.view.junk [⟨Rect.whole S512x1024, ReadAs.same.apply (View.read (Elt F) (dSl hdM (k0_off2 k) (k0_off2_inb i k h1)).view X7)⟩]) inb_S512x1024_S512x1024_0_0
    rw [← hr] at hg
    unfold View.readCov
    exact GoodW.step (n := 512) wdM.view f11 (k0_off4_eq k) _ _ _ hg _ h11
  isplitl [F5]; · iexact F5
  isplitl [F6]; · iexact F6
  isplitl [F7]; · iexact F7
  isplitl [G5]; · iexists _; iexact G5
  isplitl [G6]; · iexists _; iexact G6
  isplitl [G7]; · iexists _; iexact G7
  iexists _; iexact HO

theorem bootExit (c : Dev nD) (X5 : Cont (F := F) c hgM) (X6 : Cont (F := F) c huM) (X7 : Cont (F := F) c hdM) :
    bootInv c X5 X6 X7 (256 * Scf.trips k0_t1_loop.lb k0_t1_loop.ub k0_t1_loop.st) (512 * Scf.trips k0_t1_loop.lb k0_t1_loop.ub k0_t1_loop.st)
      ⊢ bootInv c X5 X6 X7 1024 2048 := by
  rw [show Scf.trips k0_t1_loop.lb k0_t1_loop.ub k0_t1_loop.st = 4 from btrips]

theorem read_writes_last {S : Shape} {α : EltTy} {κ : Kind} {sp : Space} (v : View sig κ sp S α) (f : v.ty.Contents (Elt F))
    (w : S.Idx → Elt F α) (L : List (View.Piece (Elt F) S α)) : v.read (Elt F) (v.writes (Elt F) f (⟨Rect.whole S, w⟩ :: L)) = w := by
  rw [← View.write_univ_eq_writes_whole, View.read_write_univ]
theorem landG2 (c : Dev nD) (i : grid0.Coords) {t : ℕ} (ht : t = 4 * (i 0).val + (i 1).val) (hb : (i 1).val < 4)
    (M : Memref sig .tc .hbm S16x1024x2048 .f32) (X : Cont (F := F) c M) (D : Memref sig .tc .vmem S256x2048 .f32) (g : Cont (F := F) c D)
    {ho : ∀ a, k0_off13 i a + S1x256x2048.size a ≤ S16x1024x2048.size a} (L : List (View.Piece (Elt F) S256x2048 .f32)) :
    GoodS ((t + 1) / 4 + 1) (256 * ((t + 1) % 4)) (M.view.read (Elt F) X)
      (D.view.read (Elt F) (D.view.writes (Elt F) g (⟨Rect.whole S256x2048, ReadAs.same.apply (View.read (Elt F) (gSl M (k0_off13 i) ho).view X)⟩ :: L))) := by
  have h := landG c i ht hb M X D g (ho := ho)
  rw [read_writes_all] at h
  rwa [read_writes_last]
theorem landD2 (c : Dev nD) (i : grid0.Coords) {t : ℕ} (ht : t = 4 * (i 0).val + (i 1).val) (hb : (i 1).val < 4)
    (M : Memref sig .tc .hbm S16x2048x1024 .f32) (X : Cont (F := F) c M) (D : Memref sig .tc .vmem S512x1024 .f32) (g : Cont (F := F) c D)
    {ho : ∀ a, k0_off14 i a + S1x512x1024.size a ≤ S16x2048x1024.size a} (L : List (View.Piece (Elt F) S512x1024 .f32)) :
    GoodS ((t + 1) / 4 + 1) (512 * ((t + 1) % 4)) (M.view.read (Elt F) X)
      (D.view.read (Elt F) (D.view.writes (Elt F) g (⟨Rect.whole S512x1024, ReadAs.same.apply (View.read (Elt F) (dSl M (k0_off14 i) ho).view X)⟩ :: L))) := by
  have h := landD c i ht hb M X D g (ho := ho)
  rw [read_writes_all] at h
  rwa [read_writes_last]
theorem slots0 {R C n : ℕ} {X : (⟨3, ![16, R, C]⟩ : Shape).Idx → F .f32} {d : (⟨3, ![2, R, C]⟩ : Shape).Idx → F .bf16}
    (h : GoodW 0 0 R X d) : Slots n 0 X d := ⟨h, GoodW.zero⟩
theorem goodB {R C n k e b : ℕ} {X : (⟨3, ![16, R, C]⟩ : Shape).Idx → F .f32} {g : (⟨2, ![n, C]⟩ : Shape).Idx → F .f32}
    (he : e = 0) (hb : b = 0) (h : GoodS 1 0 X g) : GoodS (e + 1) (k * b) X g := by subst he; subst hb; exact h

set_option maxHeartbeats 800000 in
/-- The first step: expert 0's weights are stored in slot 0, then expert 1's first chunk is asked for, waited for and stored, and its
second asked for. -/
theorem run_boot (c : Dev nD) (i : grid0.Coords) (h1 : k0_cond1 i = 1#1) (h2 : k0_cond2 i = 1#1) (h3 : k0_cond3 i = 1#1) (i0 : (i 0).val = 0) (i1 : (i 1).val = 0)
    (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole)
    (f2 : Cont (F := F) c arg2) (f3 : Cont (F := F) c arg3) (f4 : Cont (F := F) c arg4)
    (X5 : Cont (F := F) c hgM) (X6 : Cont (F := F) c huM) (X7 : Cont (F := F) c hdM) :
    iprop((pts c arg2 f2 ∗ pts c arg3 f3 ∗ pts c arg4 f4 ∗ (∃ f, pts c arg8 f))
        ∗ ((∃ g, pts c wgM g) ∗ (∃ g, pts c wuM g) ∗ (∃ g, pts c wdM g)) ∗ Idle3 c X5 X6 X7 ∗ (∃ W, owes (c : Thread nD τ) 0 W))
      ⊢ wp frame (wpE (defs₀ (F := F)) Variants.none c none) Set.univ (bodyOf i arg2 harg2 arg3 harg3 arg4 harg4 arg8 harg8)
        (fun _ => iprop(WinsPost c (i 0) arg2 arg3 arg4 arg8 f2 f3 f4 X5 X6 X7 ∗ Slots3 c 1 X5 X6 X7 ∗ Fly3 c 1 X5 X6 X7 ∗ (∃ W, owes (c : Thread nD τ) 0 W))) := by
  unfold bodyOf; rw [cc0_expert_ffn_eq_skeleton]; unfold cc0_expert_ffn_skel
  unfold Idle3
  iintro ⟨⟨H2, H3, H4, ⟨%f8, H8⟩⟩, ⟨⟨%x9, H9⟩, ⟨%x10, H10⟩, ⟨%x11, H11⟩⟩, ⟨⟨⟨%g5, G5⟩, ⟨%g6, G6⟩, ⟨%g7, G7⟩⟩, ⟨F5, F6, F7⟩, ⟨R5, R6, R7⟩⟩, ⟨%W, HO⟩⟩
  ihave HI : bootInv c X5 X6 X7 (256 * 0) (512 * 0) $$ [H9 H10 H11 G5 G6 G7 F5 F6 F7 R5 R6 R7 HO]
  · unfold bootInv
    isplitl [R5]; · iexact R5
    isplitl [R6]; · iexact R6
    isplitl [R7]; · iexact R7
    isplitl [H9]; · iexists _; isplitl [H9]; · iexact H9
                    ipureintro; exact GoodW.zero
    isplitl [H10]; · iexists _; isplitl [H10]; · iexact H10
                     ipureintro; exact GoodW.zero
    isplitl [H11]; · iexists _; isplitl [H11]; · iexact H11
                     ipureintro; exact GoodW.zero
    isplitl [F5]; · iexact F5
    isplitl [F6]; · iexact F6
    isplitl [F7]; · iexact F7
    isplitl [G5]; · iexists _; iexact G5
    isplitl [G6]; · iexists _; iexact G6
    isplitl [G7]; · iexists _; iexact G7
    iexists _; iexact HO
  sl_exec
  iapply (Scf.wp_for_bind frame (wpE (defs₀ (F := F)) Variants.none c none) Set.univ _ _ _ _ _ _
    (fun k _ => bootInv c X5 X6 X7 (256 * k) (512 * k))
    (fun k _ => boot_trip c i arg2 harg2 arg3 harg3 arg4 harg4 arg8 harg8 h1 X5 X6 X7 k)) $$ HI
  iintro %acc HI
  ihave HI := (bootExit c X5 X6 X7) $$ HI
  unfold bootInv
  icases HI with ⟨R5, R6, R7, ⟨%y9, H9, %h9⟩, ⟨%y10, H10, %h10⟩, ⟨%y11, H11, %h11⟩, F5, F6, F7, ⟨%g5, G5⟩, ⟨%g6, G6⟩, ⟨%g7, G7⟩, ⟨%W, HO⟩⟩
  sl_exec
  sl_step
  delta run_boot.sl.dma26 run_boot.sl.dma26_1 run_boot.sl.dma26_2 run_boot.sl.r_3 run_boot.sl.r_2 run_boot.sl.r_1 run_boot.sl.r run_boot.sl.v15
    run_boot.sl.v143 run_boot.sl.v150 run_boot.sl.v157 run_boot.sl.dma0 run_boot.sl.dma0_1 run_boot.sl.dma0_2
  unfold View.readCov
  have hb : (i 1).val < 4 := (i 1).isLt
  have ht : 0 = 4 * (i 0).val + (i 1).val := by omega
  have hs5 := gotG c (off := ![1, 0, 0]) rfl hgM X5 sgM sgM.view.junk (ho := inb_S16x1024x2048_S1x256x2048_1_0_0)
  have hr5 := readAt_all2 (n0 := 256) (n1 := 2048) sgM.view (sgM.view.writes (Elt F) sgM.view.junk [⟨Rect.whole S256x2048, ReadAs.same.apply (View.read (Elt F) (gSl hgM ![1, 0, 0] inb_S16x1024x2048_S1x256x2048_1_0_0).view X5)⟩]) inb_S256x2048_S256x2048_0_0
  rw [← hr5] at hs5
  have hs6 := gotG c (off := ![1, 0, 0]) rfl huM X6 suM suM.view.junk (ho := inb_S16x1024x2048_S1x256x2048_1_0_0)
  have hr6 := readAt_all2 (n0 := 256) (n1 := 2048) suM.view (suM.view.writes (Elt F) suM.view.junk [⟨Rect.whole S256x2048, ReadAs.same.apply (View.read (Elt F) (gSl huM ![1, 0, 0] inb_S16x1024x2048_S1x256x2048_1_0_0).view X6)⟩]) inb_S256x2048_S256x2048_0_0
  rw [← hr6] at hs6
  have hs7 := gotD c (off := ![1, 0, 0]) rfl hdM X7 sdM sdM.view.junk (ho := inb_S16x2048x1024_S1x512x1024_1_0_0)
  have hr7 := readAt_all2 (n0 := 512) (n1 := 1024) sdM.view (sdM.view.writes (Elt F) sdM.view.junk [⟨Rect.whole S512x1024, ReadAs.same.apply (View.read (Elt F) (dSl hdM ![1, 0, 0] inb_S16x2048x1024_S1x512x1024_1_0_0).view X7)⟩]) inb_S512x1024_S512x1024_0_0
  rw [← hr7] at hs7
  have b9 := slots0 (n := 256) h9
  have b10 := slots0 (n := 256) h10
  have b11 := slots0 (n := 512) h11
  have hs5 := goodB (k := 256) i0 i1 hs5
  have hs6 := goodB (k := 256) i0 i1 hs6
  have hs7 := goodB (k := 512) i0 i1 hs7
  unfold WinsPost Slots3 Fly3
  isplitl [H2 H3 H4 H8]
  · isplitl [H2]; · iexact H2
    isplitl [H3]; · iexact H3
    isplitl [H4]; · iexact H4
    iexists _; isplitr
    swap; · iexact H8
    ipureintro; exact out_read c i 0 ht arg2 arg3 arg4 arg8 f2 f3 f4 f8 X5 X6 X7 y9 y10 y11 b9 b10 b11
  isplitl [H9 H10 H11]
  · iexists _, _, _; isplitr
    swap
    · isplitl [H9]; · iexact H9
      isplitl [H10]; · iexact H10
      iexact H11
    ipureintro
    exact ⟨Slots.next wgM.view y9 rfl hb ht (off11_eq i) _ _ _ hs5 _ b9,
        Slots.next wuM.view y10 rfl hb ht (off11_eq i) _ _ _ hs6 _ b10,
        Slots.next wdM.view y11 rfl hb ht (off12_eq i) _ _ _ hs7 _ b11⟩
  isplitl [F5 R5 F6 R6 F7 R7]
  · isplitl [F5 R5]
    · iexists k0_off13 i, (k0_off13_inb i h3), sgM.view.writes (Elt F) g5 [⟨Rect.whole S256x2048, ReadAs.same.apply (View.read (Elt F) (gSl hgM (k0_off13 i) (k0_off13_inb i h3)).view X5)⟩, ⟨Rect.whole S256x2048, ReadAs.same.apply (View.read (Elt F) (gSl hgM ![1, 0, 0] inb_S16x1024x2048_S1x256x2048_1_0_0).view X5)⟩]
      isplitr
      swap; isplitl [F5]; · iexact F5
      iexact R5
      ipureintro; exact landG2 c i ht hb hgM X5 sgM _ _
    isplitl [F6 R6]
    · iexists k0_off13 i, (k0_off13_inb i h3), suM.view.writes (Elt F) g6 [⟨Rect.whole S256x2048, ReadAs.same.apply (View.read (Elt F) (gSl huM (k0_off13 i) (k0_off13_inb i h3)).view X6)⟩, ⟨Rect.whole S256x2048, ReadAs.same.apply (View.read (Elt F) (gSl huM ![1, 0, 0] inb_S16x1024x2048_S1x256x2048_1_0_0).view X6)⟩]
      isplitr
      swap; isplitl [F6]; · iexact F6
      iexact R6
      ipureintro; exact landG2 c i ht hb huM X6 suM _ _
    · iexists k0_off14 i, (k0_off14_inb i h3), sdM.view.writes (Elt F) g7 [⟨Rect.whole S512x1024, ReadAs.same.apply (View.read (Elt F) (dSl hdM (k0_off14 i) (k0_off14_inb i h3)).view X7)⟩, ⟨Rect.whole S512x1024, ReadAs.same.apply (View.read (Elt F) (dSl hdM ![1, 0, 0] inb_S16x2048x1024_S1x512x1024_1_0_0).view X7)⟩]
      isplitr
      swap; isplitl [F7]; · iexact F7
      iexact R7
      ipureintro; exact landD2 c i ht hb hdM X7 sdM _ _
  iexists _; iexact HO

end Cert.KernelIdeal.Ffn

end
-- ==== Proof.Ffn.Frame.lean ====
/-
  The expert feed-forward region: its invariant between the points, the body at any point, the run, and the frame.
-/
module

public import proofs.«01_k».proof.Proof.Ffn.Boot

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body holds besides its windows before point `n`: at first nothing is known of the two-slot copies and no chunk is in
flight; from point 1 on the copies hold what the points before have stored, with three chunks in flight until point 60. -/
def St (c : Dev nD) (X5 : Cont (F := F) c hgM) (X6 : Cont (F := F) c huM) (X7 : Cont (F := F) c hdM) (n : ℕ) : sProp 𝕄 :=
  if n = 0 then iprop(((∃ g, pts c wgM g) ∗ (∃ g, pts c wuM g) ∗ (∃ g, pts c wdM g)) ∗ Idle3 c X5 X6 X7)
  else if n < 60 then iprop(Slots3 c n X5 X6 X7 ∗ Fly3 c n X5 X6 X7)
  else iprop(Slots3 c n X5 X6 X7 ∗ Idle3 c X5 X6 X7)

theorem St_zero (c : Dev nD) (X5 : Cont (F := F) c hgM) (X6 : Cont (F := F) c huM) (X7 : Cont (F := F) c hdM) :
    St c X5 X6 X7 0 = iprop(((∃ g, pts c wgM g) ∗ (∃ g, pts c wuM g) ∗ (∃ g, pts c wdM g)) ∗ Idle3 c X5 X6 X7) := by
  unfold St; rw [if_pos rfl]
theorem St_fly (c : Dev nD) (X5 : Cont (F := F) c hgM) (X6 : Cont (F := F) c huM) (X7 : Cont (F := F) c hdM) {n : ℕ} (h0 : n ≠ 0) (h : n < 60) :
    St c X5 X6 X7 n = iprop(Slots3 c n X5 X6 X7 ∗ Fly3 c n X5 X6 X7) := by
  unfold St; rw [if_neg h0, if_pos h]
theorem St_idle (c : Dev nD) (X5 : Cont (F := F) c hgM) (X6 : Cont (F := F) c huM) (X7 : Cont (F := F) c hdM) {n : ℕ} (h : ¬ n < 60) :
    St c X5 X6 X7 n = iprop(Slots3 c n X5 X6 X7 ∗ Idle3 c X5 X6 X7) := by
  unfold St; rw [if_neg (by omega), if_neg h]

/-- The body at point `t`. -/
theorem run_any (c : Dev nD) (i : grid0.Coords) (t : ℕ) (ht : t = 4 * (i 0).val + (i 1).val)
    (arg2 : Memref sig .tc .vmem S4x1x1x2048 .i32) (harg2 : arg2.IsWhole)
    (arg3 : Memref sig .tc .vmem S4x1x1x2048 .f32) (harg3 : arg3.IsWhole) (arg4 : Memref sig .tc .vmem S4x1x256x1024 .bf16) (harg4 : arg4.IsWhole)
    (arg8 : Memref sig .tc .vmem S4x1x256x1024 .bf16) (harg8 : arg8.IsWhole)
    (f2 : Cont (F := F) c arg2) (f3 : Cont (F := F) c arg3) (f4 : Cont (F := F) c arg4)
    (X5 : Cont (F := F) c hgM) (X6 : Cont (F := F) c huM) (X7 : Cont (F := F) c hdM) :
    iprop((pts c arg2 f2 ∗ pts c arg3 f3 ∗ pts c arg4 f4 ∗ (∃ f, pts c arg8 f)) ∗ St c X5 X6 X7 t ∗ (∃ W, owes (c : Thread nD τ) 0 W))
      ⊢ wp frame (wpE (defs₀ (F := F)) Variants.none c none) Set.univ (bodyOf i arg2 harg2 arg3 harg3 arg4 harg4 arg8 harg8)
        (fun _ => iprop(WinsPost c (i 0) arg2 arg3 arg4 arg8 f2 f3 f4 X5 X6 X7 ∗ St c X5 X6 X7 (t + 1) ∗ (∃ W, owes (c : Thread nD τ) 0 W))) := by
  have hb : (i 1).val < 4 := (i 1).isLt
  have he : (i 0).val < 16 := (i 0).isLt
  by_cases h0 : t = 0
  · subst h0
    rw [St_zero, St_fly c X5 X6 X7 (n := 0 + 1) (by omega) (by omega)]
    refine triple_restated (run_boot c i ((cond1_iff i).mpr ⟨by omega, by omega⟩) ((cond2_iff i).mpr (by omega)) ((cond3_iff i).mpr (by omega)) (by omega) (by omega)
      arg2 harg2 arg3 harg3 arg4 harg4 arg8 harg8 f2 f3 f4 X5 X6 X7) rfl ?_ fun _ => ?_
    · iintro ⟨HW, ⟨HS, HI⟩, HO⟩
      isplitl [HW]; · iexact HW
      isplitl [HS]; · iexact HS
      isplitl [HI]; · iexact HI
      iexact HO
    · iintro ⟨HW, HS, HI, HO⟩
      isplitl [HW]; · iexact HW
      isplitl [HS HI]
      · isplitl [HS]; · iexact HS
        iexact HI
      iexact HO
  by_cases h1 : t < 60
  · rw [St_fly c X5 X6 X7 h0 h1]
    have c1 : ¬ k0_cond1 i = 1#1 := fun h => by have := (cond1_iff i).mp h; omega
    have c2 : k0_cond2 i = 1#1 := (cond2_iff i).mpr (by omega)
    by_cases h3 : t < 59
    · rw [St_fly c X5 X6 X7 (n := t + 1) (by omega) (by omega)]
      refine triple_restated (run_mid c i c1 c2 ((cond3_iff i).mpr (by omega)) t ht
        arg2 harg2 arg3 harg3 arg4 harg4 arg8 harg8 f2 f3 f4 X5 X6 X7) rfl ?_ fun _ => ?_
      · iintro ⟨HW, ⟨HS, HI⟩, HO⟩
        isplitl [HW]; · iexact HW
        isplitl [HS]; · iexact HS
        isplitl [HI]; · iexact HI
        iexact HO
      · iintro ⟨HW, HS, HI, HO⟩
        isplitl [HW]; · iexact HW
        isplitl [HS HI]
        · isplitl [HS]; · iexact HS
          iexact HI
        iexact HO
    · rw [St_idle c X5 X6 X7 (n := t + 1) (by omega)]
      refine triple_restated (run_lastWait c i c1 c2 (fun h => by have := (cond3_iff i).mp h; omega) t ht
        arg2 harg2 arg3 harg3 arg4 harg4 arg8 harg8 f2 f3 f4 X5 X6 X7) rfl ?_ fun _ => ?_
      · iintro ⟨HW, ⟨HS, HI⟩, HO⟩
        isplitl [HW]; · iexact HW
        isplitl [HS]; · iexact HS
        isplitl [HI]; · iexact HI
        iexact HO
      · iintro ⟨HW, HS, HI, HO⟩
        isplitl [HW]; · iexact HW
        isplitl [HS HI]
        · isplitl [HS]; · iexact HS
          iexact HI
        iexact HO
  · rw [St_idle c X5 X6 X7 h1, St_idle c X5 X6 X7 (n := t + 1) (by omega)]
    refine triple_restated (run_idle c i (fun h => by have := (cond1_iff i).mp h; omega) (fun h => by have := (cond2_iff i).mp h; omega)
      (fun h => by have := (cond3_iff i).mp h; omega) t ht
      arg2 harg2 arg3 harg3 arg4 harg4 arg8 harg8 f2 f3 f4 X5 X6 X7) rfl ?_ fun _ => ?_
    · iintro ⟨HW, ⟨HS, HI⟩, HO⟩
      isplitl [HW]; · iexact HW
      isplitl [HS]; · iexact HS
      isplitl [HI]; · iexact HI
      iexact HO
    · iintro ⟨HW, HS, HI, HO⟩
      isplitl [HW]; · iexact HW
      isplitl [HS HI]
      · isplitl [HS]; · iexact HS
        iexact HI
      iexact HO

/-! ## The proof data -/

/-- The block point `t` leaves in the output window. -/
def outs (c : Dev nD) (t : Fin cfg0.N) : (⟨4, ![4, 1, 256, 1024]⟩ : Shape).Idx → F .bf16 :=
  outBlk ((grid0.coords t) 0) (iblk m c 0 t) (iblk m c 1 t) (iblk m c 2 t)
    (hgM.view.read (Elt F) (V m c main_arg3)) (huM.view.read (Elt F) (V m c main_arg4)) (hdM.view.read (Elt F) (V m c main_arg5))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outs m c t
  Φ t := iprop(St c (V m c main_arg3) (V m c main_arg4) (V m c main_arg5) t.val ∗ ∃ r, prngReg c r)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outs m c t := by dsimp only [dats]
theorem Phi_at (c : Dev nD) (t : Fin (cfg0.N + 1)) :
    (dats m 0 c).Φ t = iprop(St c (V m c main_arg3) (V m c main_arg4) (V m c main_arg5) t.val ∗ ∃ r, prngReg c r) := rfl

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem coords_eq : ∀ t : Fin grid0.N, t.val = 4 * ((grid0.coords t) 0).val + ((grid0.coords t) 1).val := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_at, Phi_at, after0, after1, after2, after3]
  simp only [before0, before1, before2]
  unfold Dat.owesAt Pipeline.owesWithin owns
  rw [show (dats m 0 c).owed t.castSucc = 0 from rfl, show (dats m 0 c).owed t.succ = 0 from rfl]
  iintro ⟨⟨HS, HG⟩, ⟨%W, -, HO⟩, ⟨%d0, %f2, %h2, H2⟩, ⟨%d1, %f3, %h3, H3⟩, ⟨%d2, %f4, %h4, H4⟩, ⟨%d3, %f8, %h8, H8⟩⟩
  ihave HR := (run_any c (grid0.coords t) t.val (coords_eq t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) f2 f3 f4
    (V m c main_arg3) (V m c main_arg4) (V m c main_arg5)) $$ [HS HO H2 H3 H4 H8]
  · isplitl [H2 H3 H4 H8]
    · isplitl [H2]; · iexact H2
      isplitl [H3]; · iexact H3
      isplitl [H4]; · iexact H4
      iexists f8; iexact H8
    isplitl [HS]; · iexact HS
    iexists W; iexact HO
  iapply (wp_wand frame (wpE (defs₀ (F := F)) Variants.none c none) Set.univ) $$ HR
  unfold WinsPost
  iintro %_ ⟨⟨H2, H3, H4, ⟨%g8, %hg, H8⟩⟩, HS, ⟨%W', HO⟩⟩
  isplitl [HS HG]
  · isplitl [HS]; · iexact HS
    iexact HG
  isplitl [HO]
  · iexists W'; isplitr; · ipureintro; exact fun _ _ => Or.inl trivial
    iexact HO
  isplitl [H2]
  · iexists f2; isplitr
    swap; · iexact H2
    ipureintro; exact h2
  isplitl [H3]
  · iexists f3; isplitr
    swap; · iexact H3
    ipureintro; exact h3
  isplitl [H4]
  · iexists f4; isplitr
    swap; · iexact H4
    ipureintro; exact h4
  iexists g8; isplitr
  swap; · iexact H8
  ipureintro
  rw [hg, h2, h3, h4]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem fill (c : Dev nD) {sp : Space} {S : Shape} {e : EltTy} (M : Memref sig .tc sp S e) :
    (iprop(∃ d, owns (c : Thread nD τ) M fullShare d) : sProp 𝕄) ⊢ iprop(∃ f, pts c M f) := by
  unfold owns
  iintro ⟨%d, %f, -, H⟩
  iexists f; iexact H
theorem unfill (c : Dev nD) {sp : Space} {S : Shape} {e : EltTy} (M : Memref sig .tc sp S e) (f : Cont (F := F) c M) :
    (pts c M f : sProp 𝕄) ⊢ iprop(∃ d, owns (c : Thread nD τ) M fullShare d) := by
  unfold owns
  iintro H
  iexists (M.view.read (Elt F) f), f; isplitr
  swap; · iexact H
  ipureintro; rfl

theorem enter (c : Dev nD) : (Pipeline.ΦD osem0 spec0 H0 (V m) c : sProp 𝕄) ⊢ (dats m 0 c).Φ 0 := by
  rw [Phi_at, PhiD0_eq, show ((0 : Fin (cfg0.N + 1)).val) = 0 from rfl, St_zero]
  unfold Idle3
  iintro ⟨⟨H0, H1, H2, H3, H4, H5⟩, HG, HQ, HH⟩
  isplitl [H0 H1 H2 H3 H4 H5 HQ HH]
  · isplitl [H0 H1 H2]
    · isplitl [H0]; · iapply (fill c wgM) $$ H0
      isplitl [H1]; · iapply (fill c wuM) $$ H1
      iapply (fill c wdM) $$ H2
    isplitl [H3 H4 H5]
    · isplitl [H3]; · iapply (fill c sgM) $$ H3
      isplitl [H4]; · iapply (fill c suM) $$ H4
      iapply (fill c sdM) $$ H5
    isplitl [HQ]; · iexact HQ
    iexact HH
  iexact HG
theorem leave (c : Dev nD) : (dats m 0 c).Φ (Fin.last cfg0.N) ⊢ (Pipeline.ΦD osem0 spec0 H0 (V m) c : sProp 𝕄) := by
  rw [Phi_at, PhiD0_eq, show ((Fin.last cfg0.N).val) = 64 from rfl, St_idle _ _ _ _ (by omega)]
  unfold Idle3 Slots3
  iintro ⟨⟨⟨%x9, %x10, %x11, -, H0, H1, H2⟩, ⟨⟨%g5, H3⟩, ⟨%g6, H4⟩, ⟨%g7, H5⟩⟩, HQ, HH⟩, HG⟩
  isplitl [H0 H1 H2 H3 H4 H5]
  · isplitl [H0]; · iapply (unfill c wgM) $$ H0
    isplitl [H1]; · iapply (unfill c wuM) $$ H1
    isplitl [H2]; · iapply (unfill c wdM) $$ H2
    isplitl [H3]; · iapply (unfill c sgM) $$ H3
    isplitl [H4]; · iapply (unfill c suM) $$ H4
    iapply (unfill c sdM) $$ H5
  isplitl [HG]; · iexact HG
  isplitl [HQ]; · iexact HQ
  iexact HH

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c)

/-- The frame's statement, at any float type. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Ffn

end
-- ==== Proof.Ffn.Value.lean ====
/-
  The value of the expert feed-forward call over the extended reals: one output block, entry by entry.
-/
module

public import proofs.«01_k».proof.Proof.Ffn.Pure
public import Idealize.ShloMosaic.Lib.Pointwise

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open scoped BigOperators

/-- The routed weight a slot holds: the weights of the tokens whose slot this is, summed. -/
def slotVal (p : Fin 2048 → BitVec 32) (a : Fin 2048 → EReal) (c : Fin 256) : EReal :=
  ∑ s : Fin 2048, if p s = BitVec.ofNat 32 c.val then a s else 0

theorem select_eq {w : ℕ} (x y : BitVec w) (a b : EReal) :
    Scalar.select (IntOp.cmpi CmpIPredicate.eq x y) a b = if x = y then a else b := by
  by_cases h : x = y
  · subst h; simp [Scalar.select, IntOp.cmpi]
  · have hb : (x == y) = false := by simpa using h
    simp [Scalar.select, IntOp.cmpi, h, hb]

theorem rowVals_apply (p : IVec S1x1x1x2048 32) (a : FVec Ideal S1x1x1x2048 .f32) (c : Fin 256) :
    k0_pay8 (F := Ideal) p a (ix2 c 0) = slotVal (fun s => p (ix4 0 0 0 s)) (fun s => a (ix4 0 0 0 s)) c := by
  unfold slotVal
  pointwise [k0_pay8]
  exact Finset.sum_congr rfl fun s _ => select_eq _ _ _ _

theorem outVals_eq (b2 : S4x1x1x2048.Idx → Elt Ideal .i32) (b3 : S4x1x1x2048.Idx → Elt Ideal .f32) :
    outVals (F := Ideal) b2 b3 = concatenate S1024x1 0
      [⟨S256x1, k0_pay8 (F := Ideal) (rdBlk (α := .i32) (Rect.unit (s := S4x1x1x2048) ![0, 0, 0, 0] S1x1x1x2048.size inb_S4x1x1x2048_S1x1x1x2048_0_0_0_0).toLoadRect b2)
          (rdBlk (α := .f32) (Rect.unit (s := S4x1x1x2048) ![0, 0, 0, 0] S1x1x1x2048.size inb_S4x1x1x2048_S1x1x1x2048_0_0_0_0).toLoadRect b3)⟩,
       ⟨S256x1, k0_pay8 (F := Ideal) (rdBlk (α := .i32) (Rect.unit (s := S4x1x1x2048) ![1, 0, 0, 0] S1x1x1x2048.size inb_S4x1x1x2048_S1x1x1x2048_1_0_0_0).toLoadRect b2)
          (rdBlk (α := .f32) (Rect.unit (s := S4x1x1x2048) ![1, 0, 0, 0] S1x1x1x2048.size inb_S4x1x1x2048_S1x1x1x2048_1_0_0_0).toLoadRect b3)⟩,
       ⟨S256x1, k0_pay8 (F := Ideal) (rdBlk (α := .i32) (Rect.unit (s := S4x1x1x2048) ![2, 0, 0, 0] S1x1x1x2048.size inb_S4x1x1x2048_S1x1x1x2048_2_0_0_0).toLoadRect b2)
          (rdBlk (α := .f32) (Rect.unit (s := S4x1x1x2048) ![2, 0, 0, 0] S1x1x1x2048.size inb_S4x1x1x2048_S1x1x1x2048_2_0_0_0).toLoadRect b3)⟩,
       ⟨S256x1, k0_pay8 (F := Ideal) (rdBlk (α := .i32) (Rect.unit (s := S4x1x1x2048) ![3, 0, 0, 0] S1x1x1x2048.size inb_S4x1x1x2048_S1x1x1x2048_3_0_0_0).toLoadRect b2)
          (rdBlk (α := .f32) (Rect.unit (s := S4x1x1x2048) ![3, 0, 0, 0] S1x1x1x2048.size inb_S4x1x1x2048_S1x1x1x2048_3_0_0_0).toLoadRect b3)⟩]
      concatenates_S256x1_S256x1_S256x1_S256x1_S1024x1_d0 := rfl

/-- Four stacked columns, read at row `c` of piece `r`. -/
theorem concat4_apply (x0 x1 x2 x3 : FVec Ideal S256x1 .f32) (h) (r : Fin 4) (c : Fin 256) :
    concatenate S1024x1 0 [⟨S256x1, x0⟩, ⟨S256x1, x1⟩, ⟨S256x1, x2⟩, ⟨S256x1, x3⟩] h (ix2 ⟨256 * r.val + c.val, by omega⟩ 0)
      = (match r with | ⟨0, _⟩ => x0 | ⟨1, _⟩ => x1 | ⟨2, _⟩ => x2 | ⟨_, _⟩ => x3) (ix2 c 0) := by
  match r with
  | ⟨0, _⟩ =>
    refine concatenate_apply_piece (t := S1024x1) (0 : Fin 2) [⟨S256x1, x0⟩, ⟨S256x1, x1⟩, ⟨S256x1, x2⟩, ⟨S256x1, x3⟩] h _ 0 (by show 0 < 4; decide) S256x1 x0 rfl rfl 0 rfl (ix2 c 0) ?_ ?_
    · intro b hb; match b with | ⟨0, _⟩ => exact absurd rfl hb | ⟨1, _⟩ => rfl
    · show 0 + c.val = 256 * 0 + c.val; omega
  | ⟨1, _⟩ =>
    refine concatenate_apply_piece (t := S1024x1) (0 : Fin 2) [⟨S256x1, x0⟩, ⟨S256x1, x1⟩, ⟨S256x1, x2⟩, ⟨S256x1, x3⟩] h _ 1 (by show 1 < 4; decide) S256x1 x1 rfl rfl 256 rfl (ix2 c 0) ?_ ?_
    · intro b hb; match b with | ⟨0, _⟩ => exact absurd rfl hb | ⟨1, _⟩ => rfl
    · show 256 + c.val = 256 * 1 + c.val; omega
  | ⟨2, _⟩ =>
    refine concatenate_apply_piece (t := S1024x1) (0 : Fin 2) [⟨S256x1, x0⟩, ⟨S256x1, x1⟩, ⟨S256x1, x2⟩, ⟨S256x1, x3⟩] h _ 2 (by show 2 < 4; decide) S256x1 x2 rfl rfl 512 rfl (ix2 c 0) ?_ ?_
    · intro b hb; match b with | ⟨0, _⟩ => exact absurd rfl hb | ⟨1, _⟩ => rfl
    · show 512 + c.val = 256 * 2 + c.val; omega
  | ⟨3, _⟩ =>
    refine concatenate_apply_piece (t := S1024x1) (0 : Fin 2) [⟨S256x1, x0⟩, ⟨S256x1, x1⟩, ⟨S256x1, x2⟩, ⟨S256x1, x3⟩] h _ 3 (by show 3 < 4; decide) S256x1 x3 rfl rfl 768 rfl (ix2 c 0) ?_ ?_
    · intro b hb; match b with | ⟨0, _⟩ => exact absurd rfl hb | ⟨1, _⟩ => rfl
    · show 768 + c.val = 256 * 3 + c.val; omega

theorem outVals_apply (b2 : S4x1x1x2048.Idx → Elt Ideal .i32) (b3 : S4x1x1x2048.Idx → Elt Ideal .f32) (r : Fin 4) (c : Fin 256) :
    outVals (F := Ideal) b2 b3 (ix2 ⟨256 * r.val + c.val, by omega⟩ 0)
      = slotVal (fun s => b2 (ix4 r 0 0 s)) (fun s => b3 (ix4 r 0 0 s)) c := by
  rw [outVals_eq, concat4_apply]
  match r with
  | ⟨0, _⟩ =>
    refine (rowVals_apply _ _ c).trans ?_
    unfold rdBlk
    refine congrArg₂ (fun p a => slotVal p a c) (funext fun s => congrArg b2 (funext fun b => Fin.ext ?_)) (funext fun s => congrArg b3 (funext fun b => Fin.ext ?_))
    all_goals
      match b with
      | ⟨0, _⟩ => rfl
      | ⟨1, _⟩ => rfl
      | ⟨2, _⟩ => rfl
      | ⟨3, _⟩ => exact (Nat.zero_add _).trans (Nat.one_mul _)
  | ⟨1, _⟩ =>
    refine (rowVals_apply _ _ c).trans ?_
    unfold rdBlk
    refine congrArg₂ (fun p a => slotVal p a c) (funext fun s => congrArg b2 (funext fun b => Fin.ext ?_)) (funext fun s => congrArg b3 (funext fun b => Fin.ext ?_))
    all_goals
      match b with
      | ⟨0, _⟩ => rfl
      | ⟨1, _⟩ => rfl
      | ⟨2, _⟩ => rfl
      | ⟨3, _⟩ => exact (Nat.zero_add _).trans (Nat.one_mul _)
  | ⟨2, _⟩ =>
    refine (rowVals_apply _ _ c).trans ?_
    unfold rdBlk
    refine congrArg₂ (fun p a => slotVal p a c) (funext fun s => congrArg b2 (funext fun b => Fin.ext ?_)) (funext fun s => congrArg b3 (funext fun b => Fin.ext ?_))
    all_goals
      match b with
      | ⟨0, _⟩ => rfl
      | ⟨1, _⟩ => rfl
      | ⟨2, _⟩ => rfl
      | ⟨3, _⟩ => exact (Nat.zero_add _).trans (Nat.one_mul _)
  | ⟨3, _⟩ =>
    refine (rowVals_apply _ _ c).trans ?_
    unfold rdBlk
    refine congrArg₂ (fun p a => slotVal p a c) (funext fun s => congrArg b2 (funext fun b => Fin.ext ?_)) (funext fun s => congrArg b3 (funext fun b => Fin.ext ?_))
    all_goals
      match b with
      | ⟨0, _⟩ => rfl
      | ⟨1, _⟩ => rfl
      | ⟨2, _⟩ => rfl
      | ⟨3, _⟩ => exact (Nat.zero_add _).trans (Nat.one_mul _)

/-- One hidden value: the gate's product through silu, times the up product. -/
def hid (x : Fin 1024 → EReal) (g u : Fin 1024 → EReal) : EReal :=
  (∑ k, x k * g k) * Ideal.logistic (∑ k, x k * g k) * ∑ k, x k * u k

theorem pay11_apply (v : FVec Ideal S1024x1 .f32) (x : Vec Ideal S4x1x256x1024 .bf16) (g0 u0 d0 g1 u1 d1 : Vec Ideal S1x1024x1024 .bf16)
    (r : Fin 4) (c : Fin 256) (d : Fin 1024) :
    k0_pay11 (F := Ideal) v x g0 u0 d0 g1 u1 d1 (ix2 ⟨256 * r.val + c.val, by omega⟩ d)
      = ((∑ f : Fin 1024, hid (fun k => x (ix4 r 0 c k)) (fun k => g0 (ix3 0 k f)) (fun k => u0 (ix3 0 k f)) * d0 (ix3 0 f d))
        + ∑ f : Fin 1024, hid (fun k => x (ix4 r 0 c k)) (fun k => g1 (ix3 0 k f)) (fun k => u1 (ix3 0 k f)) * d1 (ix3 0 f d))
        * v (ix2 ⟨256 * r.val + c.val, by omega⟩ 0) := by
  unfold hid
  pointwise [k0_pay11]

/-- The whole sum over the hidden axis as the sum of its two halves. -/
theorem sum_halves (f : Fin 2048 → EReal) :
    (∑ k : Fin 1024, f ⟨0 + k.val, by omega⟩) + ∑ k : Fin 1024, f ⟨1024 + k.val, by omega⟩ = ∑ k, f k := by
  rw [Fin.sum_univ_add (a := 1024) (b := 1024) f]
  refine congrArg₂ (· + ·) (Finset.sum_congr rfl fun k _ => congrArg f (Fin.ext ?_)) (Finset.sum_congr rfl fun k _ => congrArg f (Fin.ext ?_))
  · show 0 + k.val = k.val; omega
  · rfl

/-- The layer's formula for one entry: the hidden values through the down product, times the routed weight. -/
def ffn (p : Fin 2048 → BitVec 32) (a : Fin 2048 → EReal) (x : Fin 1024 → EReal) (g u : Fin 1024 → Fin 2048 → EReal) (w : Fin 2048 → EReal) (c : Fin 256) : EReal :=
  (∑ f : Fin 2048, hid x (fun k => g k f) (fun k => u k f) * w f) * slotVal p a c

/-- A block of expert `e`'s weight, read at an entry. -/
theorem blkW_at {R C K1 K2 o1 o2 : ℕ} {h1 : o1 + K1 ≤ R} {h2 : o2 + K2 ≤ C} (X : (⟨3, ![16, R, C]⟩ : Shape).Idx → Ideal .f32) (e : Fin 16)
    (k : Fin K1) (f : Fin K2) {k' : Fin R} {f' : Fin C} (hk : k'.val = o1 + k.val) (hf : f'.val = o2 + f.val) :
    blkW (F := Ideal) o1 o2 h1 h2 X e (ix3 0 k f) = X (ix3 e k' f') := by
  unfold blkW
  refine congrArg X (funext fun b => Fin.ext ?_)
  match b with
  | ⟨0, _⟩ => rfl
  | ⟨1, _⟩ => exact hk.symm
  | ⟨2, _⟩ => exact hf.symm

theorem outBlk_apply (e : Fin 16) (b2 : S4x1x1x2048.Idx → Elt Ideal .i32) (b3 : S4x1x1x2048.Idx → Elt Ideal .f32) (b4 : S4x1x256x1024.Idx → Elt Ideal .bf16)
    (X5 X6 : S16x1024x2048.Idx → Ideal .f32) (X7 : S16x2048x1024.Idx → Ideal .f32) (r : Fin 4) (c : Fin 256) (d : Fin 1024) :
    outBlk (F := Ideal) e b2 b3 b4 X5 X6 X7 (ix4 r 0 c d)
      = ffn (fun s => b2 (ix4 r 0 0 s)) (fun s => b3 (ix4 r 0 0 s)) (fun k => b4 (ix4 r 0 c k)) (fun k f => X5 (ix3 e k f)) (fun k f => X6 (ix3 e k f))
        (fun f => X7 (ix3 e f d)) c := by
  have h1 : outBlk (F := Ideal) e b2 b3 b4 X5 X6 X7 (ix4 r 0 c d)
      = k0_pay11 (F := Ideal) (outVals b2 b3)
    (rdBlk (α := .bf16) (Rect.unit ![0, 0, 0, 0] S4x1x256x1024.size inb_S4x1x256x1024_S4x1x256x1024_0_0_0_0).toLoadRect b4)
    (blkW (K1 := 1024) (K2 := 1024) 0 0 (by decide) (by decide) X5 e) (blkW (K1 := 1024) (K2 := 1024) 0 0 (by decide) (by decide) X6 e)
    (blkW (K1 := 1024) (K2 := 1024) 0 0 (by decide) (by decide) X7 e) (blkW (K1 := 1024) (K2 := 1024) 0 1024 (by decide) (by decide) X5 e)
    (blkW (K1 := 1024) (K2 := 1024) 0 1024 (by decide) (by decide) X6 e) (blkW (K1 := 1024) (K2 := 1024) 1024 0 (by decide) (by decide) X7 e)
      (ix2 ⟨256 * r.val + c.val, by omega⟩ d) := by
    have hr : (⟨r.val * 256 + c.val, by omega⟩ : Fin 1024) = ⟨256 * r.val + c.val, by omega⟩ := Fin.ext (by show r.val * 256 + c.val = 256 * r.val + c.val; omega)
    rw [← hr]
    unfold outBlk
    pointwise [k0_pay1]
  have hx : (fun k => rdBlk (F := Ideal) (α := .bf16) (Rect.unit ![0, 0, 0, 0] S4x1x256x1024.size inb_S4x1x256x1024_S4x1x256x1024_0_0_0_0).toLoadRect b4 (ix4 r 0 c k))
      = fun k => b4 (ix4 r 0 c k) := by
    funext k; unfold rdBlk; refine congrArg b4 (funext fun b => Fin.ext ?_)
    match b with
    | ⟨0, _⟩ => exact (Nat.zero_add _).trans (Nat.one_mul _)
    | ⟨1, _⟩ => rfl
    | ⟨2, _⟩ => exact (Nat.zero_add _).trans (Nat.one_mul _)
    | ⟨3, _⟩ => exact (Nat.zero_add _).trans (Nat.one_mul _)
  rw [h1, pay11_apply, outVals_apply, hx]
  unfold ffn
  rw [← sum_halves]
  refine congrArg (· * _) (congrArg₂ (· + ·) (Finset.sum_congr rfl fun f _ => ?_) (Finset.sum_congr rfl fun f _ => ?_))
  · refine congrArg₂ (· * ·) (congrArg₂ (hid _) (funext fun k => ?_) (funext fun k => ?_)) ?_
    · exact blkW_at _ _ _ _ (Nat.zero_add _).symm rfl
    · exact blkW_at _ _ _ _ (Nat.zero_add _).symm rfl
    · exact blkW_at _ _ _ _ rfl (Nat.zero_add _).symm
  · refine congrArg₂ (· * ·) (congrArg₂ (hid _) (funext fun k => ?_) (funext fun k => ?_)) ?_
    · exact blkW_at _ _ _ _ (Nat.zero_add _).symm rfl
    · exact blkW_at _ _ _ _ (Nat.zero_add _).symm rfl
    · exact blkW_at _ _ _ _ rfl (Nat.zero_add _).symm

end Cert.KernelIdeal.Ffn
end
-- ==== Proof.Ffn.Final.lean ====
/-
  The expert feed-forward call's result array over the extended reals.
-/
module

public import proofs.«01_k».proof.Proof.Ffn.Frame
public import proofs.«01_k».proof.Proof.Ffn.Value
public import Idealize.ShloMosaic.Lib.Pipeline.ValueKit
public import Idealize.ShloMosaic.Lib.Claim

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- The layer's formula over the whole arrays. -/
def ffnAll (A0 : IVec S16x16x2048 32) (A1 : FVec Ideal S16x16x2048 .f32) (A2 : FVec Ideal S16x16x256x1024 .bf16) (A3 A4 : FVec Ideal S16x1024x2048 .f32)
    (A5 : FVec Ideal S16x2048x1024 .f32) : FVec Ideal S16x16x256x1024 .bf16 := fun j =>
  ffn (fun s => A0 (ix3 (j 0) (j 1) s)) (fun s => A1 (ix3 (j 0) (j 1) s)) (fun k => A2 (ix4 (j 0) (j 1) (j 2) k)) (fun k f => A3 (ix3 (j 1) k f))
      (fun k f => A4 (ix3 (j 1) k f)) (fun f => A5 (ix3 (j 1) f (j 3))) (j 2)

theorem index0 : ∀ t : Fin cfg0.N, win0_0.index t = ![(grid0.coords t 1).val, (grid0.coords t 0).val, 0, 0] := (by decide +kernel : ∀ t : Fin grid0.N, _)
theorem index1 : ∀ t : Fin cfg0.N, win0_1.index t = ![(grid0.coords t 1).val, (grid0.coords t 0).val, 0, 0] := (by decide +kernel : ∀ t : Fin grid0.N, _)
theorem index2 : ∀ t : Fin cfg0.N, win0_2.index t = ![(grid0.coords t 1).val, (grid0.coords t 0).val, 0, 0] := (by decide +kernel : ∀ t : Fin grid0.N, _)
theorem index3 : ∀ t : Fin cfg0.N, win0_3.index t = ![(grid0.coords t 1).val, (grid0.coords t 0).val, 0, 0] := (by decide +kernel : ∀ t : Fin grid0.N, _)

theorem V_v0 (c : Dev nD) : V m c main_v0 = shapeCast S16x16x1x2048 (m ((c : Thread nD τ).loc main_arg0)) shapeCasts_S16x16x2048_S16x16x1x2048 := by
  entry_read; rfl
theorem V_v1 (c : Dev nD) : V m c main_v1 = shapeCast S16x16x1x2048 (m ((c : Thread nD τ).loc main_arg1)) shapeCasts_S16x16x2048_S16x16x1x2048 := by
  entry_read; rfl

section
variable (c : Dev nD) (t : Fin cfg0.N) (r : Fin 4) (b : Fin 16) (hb : b.val = (grid0.coords t 1).val * 4 + r.val)
include hb

theorem blk0_at (s : Fin 2048) : iblk m c 0 t (ix4 r 0 0 s) = m ((c : Thread nD τ).loc main_arg0) (ix3 b (grid0.coords t 0) s) := by
  have h : iblk m c 0 t (ix4 r 0 0 s) = V m c main_v0 (ix4 b (grid0.coords t 0) 0 s) := by
    blk_simp [iblk]
    refine congrArg (V m c main_v0) ?_
    funext a; apply Fin.ext
    match a with
    | ⟨0, _⟩ => show (((cfg0.win 0).blk t).view.emb (ix4 r 0 0 s) 0).val = b.val; blk_simp [index0]; exact hb.symm
    | ⟨1, _⟩ => show (((cfg0.win 0).blk t).view.emb (ix4 r 0 0 s) 1).val = (grid0.coords t 0).val; blk_simp [index0]; rfl
    | ⟨2, _⟩ => show (((cfg0.win 0).blk t).view.emb (ix4 r 0 0 s) 2).val = 0; blk_simp [index0]; rfl
    | ⟨3, _⟩ => show (((cfg0.win 0).blk t).view.emb (ix4 r 0 0 s) 3).val = s.val; blk_simp [index0]
  rw [h, V_v0]
  pointwise
theorem blk1_at (s : Fin 2048) : iblk m c 1 t (ix4 r 0 0 s) = m ((c : Thread nD τ).loc main_arg1) (ix3 b (grid0.coords t 0) s) := by
  have h : iblk m c 1 t (ix4 r 0 0 s) = V m c main_v1 (ix4 b (grid0.coords t 0) 0 s) := by
    blk_simp [iblk]
    refine congrArg (V m c main_v1) ?_
    funext a; apply Fin.ext
    match a with
    | ⟨0, _⟩ => show (((cfg0.win 1).blk t).view.emb (ix4 r 0 0 s) 0).val = b.val; blk_simp [index1]; exact hb.symm
    | ⟨1, _⟩ => show (((cfg0.win 1).blk t).view.emb (ix4 r 0 0 s) 1).val = (grid0.coords t 0).val; blk_simp [index1]; rfl
    | ⟨2, _⟩ => show (((cfg0.win 1).blk t).view.emb (ix4 r 0 0 s) 2).val = 0; blk_simp [index1]; rfl
    | ⟨3, _⟩ => show (((cfg0.win 1).blk t).view.emb (ix4 r 0 0 s) 3).val = s.val; blk_simp [index1]
  rw [h, V_v1]
  pointwise
theorem blk2_at (k : Fin 256) (d : Fin 1024) : iblk m c 2 t (ix4 r 0 k d) = m ((c : Thread nD τ).loc main_arg2) (ix4 b (grid0.coords t 0) k d) := by
  have h : iblk m c 2 t (ix4 r 0 k d) = V m c main_arg2 (ix4 b (grid0.coords t 0) k d) := by
    blk_simp [iblk]
    refine congrArg (V m c main_arg2) ?_
    funext a; apply Fin.ext
    match a with
    | ⟨0, _⟩ => show (((cfg0.win 2).blk t).view.emb (ix4 r 0 k d) 0).val = b.val; blk_simp [index2]; exact hb.symm
    | ⟨1, _⟩ => show (((cfg0.win 2).blk t).view.emb (ix4 r 0 k d) 1).val = (grid0.coords t 0).val; blk_simp [index2]; rfl
    | ⟨2, _⟩ => show (((cfg0.win 2).blk t).view.emb (ix4 r 0 k d) 2).val = k.val; blk_simp [index2]
    | ⟨3, _⟩ => show (((cfg0.win 2).blk t).view.emb (ix4 r 0 k d) 3).val = d.val; blk_simp [index2]
  rw [h, V_main_arg2]
theorem emb3_at (k : Fin 256) (d : Fin 1024) : ((cfg0.win 3).blk t).view.emb (ix4 r 0 k d) = ix4 b (grid0.coords t 0) k d := by
    funext a; apply Fin.ext
    match a with
    | ⟨0, _⟩ => show (((cfg0.win 3).blk t).view.emb (ix4 r 0 k d) 0).val = b.val; blk_simp [index3]; exact hb.symm
    | ⟨1, _⟩ => show (((cfg0.win 3).blk t).view.emb (ix4 r 0 k d) 1).val = (grid0.coords t 0).val; blk_simp [index3]; rfl
    | ⟨2, _⟩ => show (((cfg0.win 3).blk t).view.emb (ix4 r 0 k d) 2).val = k.val; blk_simp [index3]
    | ⟨3, _⟩ => show (((cfg0.win 3).blk t).view.emb (ix4 r 0 k d) 3).val = d.val; blk_simp [index3]
end

theorem final (c : Dev nD) : (dats m 0 c).arrAt 3 cfg0.N
    = ffnAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 3 _ (by decide +kernel) fun t hf y => ?_
  blk_simp
  rw [after3]
  unfold outs
  obtain ⟨r, u, k, d, rfl⟩ : ∃ (r : Fin 4) (u : Fin 1) (k : Fin 256) (d : Fin 1024), y = ix4 r u k d := ⟨y 0, y 1, y 2, y 3, by
    funext a; match a with | ⟨0, _⟩ => rfl | ⟨1, _⟩ => rfl | ⟨2, _⟩ => rfl | ⟨3, _⟩ => rfl⟩
  obtain rfl : u = 0 := Subsingleton.elim _ _
  have h1 : (grid0.coords t 1).val < 4 := (grid0.coords t 1).isLt
  obtain ⟨b, hb⟩ : ∃ b : Fin 16, b.val = (grid0.coords t 1).val * 4 + r.val := ⟨⟨(grid0.coords t 1).val * 4 + r.val, by omega⟩, rfl⟩
  refine (outBlk_apply _ _ _ _ _ _ _ r k d).trans ?_
  refine Eq.trans ?_ (congrArg (ffnAll _ _ _ _ _ _) (emb3_at t r b hb k d)).symm
  rw [funext fun s => blk0_at m c t r b hb s, funext fun s => blk1_at m c t r b hb s, funext fun x => blk2_at m c t r b hb k x,
    V_main_arg3, V_main_arg4, V_main_arg5]
  rfl

/-- The run's result and its arguments after it. -/
theorem value : θ_run defs (onTc (τ := τ) (main (F := Ideal))) ⟨m, fun _ => 0, ρ⟩ (fun r => ∀ c : Dev nD,
      r.2.mem ((c.tc : Thread nD τ).loc main_v2) = ffnAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 3).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.KernelIdeal.Ffn
end
-- ==== Proof.Ffn.RefValue.lean ====
/-
  The value of the reference over the extended reals, entry by entry.
-/
module

public import proofs.«01_k».proof.Proof.Ffn.Value
public import proofs.«01_k».proof.Proof.Gen.ReferenceIdeal.Run

@[expose] public section

set_option maxRecDepth 16384

noncomputable section

namespace Cert.ReferenceIdeal.Ffn

open Cert.ReferenceIdeal Cert.ReferenceIdeal.Gen
open Idealize.ShloMosaic Idealize.ShloMosaic.TcCoe Idealize.ShloMosaic.Tactic
open Cert.KernelIdeal.Ffn (ffn hid slotVal)
open scoped BigOperators

def refTerm (A0 : IVec S16x16x2048 32) (A1 : FVec Ideal S16x16x2048 .f32) (A2 : FVec Ideal S16x16x256x1024 .bf16) (A3 A4 : FVec Ideal S16x1024x2048 .f32)
    (A5 : FVec Ideal S16x2048x1024 .f32) : FVec Ideal S16x16x256x1024 .bf16 :=
  truncf .bf16 (mulf (transpose S16x16x256x1024 [2, 0, 3, 1] (Host.dotGeneral dot_S16x2048x1024_S16x16x256x2048_S16x1024x16x256_1_3_2_02_0_1 none (A5) (mulf (mulf (transpose S16x16x256x2048 [2, 0, 3, 1] (Host.dotGeneral dot_S16x1024x2048_S16x16x256x1024_S16x2048x16x256_1_3_2_02_0_1 none (A3) (extf .f32 (A2) bitsLt_bf16_f32)) transposes_S16x2048x16x256_S16x16x256x2048_2_0_3_1) (Host.divf (broadcastInDim S16x16x256x2048 ![] bcast_S_S16x16x256x2048 (constant S_ .f32 0x3F800000#32)) (addf (broadcastInDim S16x16x256x2048 ![] bcast_S_S16x16x256x2048 (constant S_ .f32 0x3F800000#32)) (Host.exp (Host.negf (transpose S16x16x256x2048 [2, 0, 3, 1] (Host.dotGeneral dot_S16x1024x2048_S16x16x256x1024_S16x2048x16x256_1_3_2_02_0_1 none (A3) (extf .f32 (A2) bitsLt_bf16_f32)) transposes_S16x2048x16x256_S16x16x256x2048_2_0_3_1)))))) (transpose S16x16x256x2048 [2, 0, 3, 1] (Host.dotGeneral dot_S16x1024x2048_S16x16x256x1024_S16x2048x16x256_1_3_2_02_0_1 none (A4) (extf .f32 (A2) bitsLt_bf16_f32)) transposes_S16x2048x16x256_S16x16x256x2048_2_0_3_1))) transposes_S16x1024x16x256_S16x16x256x1024_2_0_3_1) (broadcastInDim S16x16x256x1024 ![0, 1, 2, 3] bcast_S16x16x256x1_S16x16x256x1024_0_1_2_3 (broadcastInDim S16x16x256x1 ![0, 1, 2] bcast_S16x16x256_S16x16x256x1_0_1_2 (Host.dotGeneral dot_S16x16x2048_S16x16x2048x256_S16x16x256_2_2_n_3_01_01 none (A1) (uitofp .f32 (cmpi .eq (broadcastInDim S16x16x2048x256 ![0, 1, 2, 3] bcast_S16x16x2048x1_S16x16x2048x256_0_1_2_3 (broadcastInDim S16x16x2048x1 ![0, 1, 2] bcast_S16x16x2048_S16x16x2048x1_0_1_2 (A0))) (broadcastInDim S16x16x2048x256 ![0, 1, 2, 3] bcast_S1x1x1x256_S16x16x2048x256_0_1_2_3 (iotaInDim S1x1x1x256 32 3)))))))) bitsLt_bf16_f32

theorem onehot {w : ℕ} (a : EReal) (x y : BitVec w) :
    a * (FloatOps.uitofp (F := Ideal) FTy.f32 (IntOp.cmpi CmpIPredicate.eq x y) : EReal) = if x = y then a else 0 := by
  by_cases h : x = y
  · subst h
    have : (FloatOps.uitofp (F := Ideal) FTy.f32 (IntOp.cmpi CmpIPredicate.eq x x) : EReal) = 1 := by
      simp [IntOp.cmpi, FloatOps.uitofp]
    rw [this, if_pos rfl, mul_one]
  · have hb : (x == y) = false := by simpa using h
    have : (FloatOps.uitofp (F := Ideal) FTy.f32 (IntOp.cmpi CmpIPredicate.eq x y) : EReal) = 0 := by
      simp [IntOp.cmpi, FloatOps.uitofp, hb]
    rw [this, if_neg h, mul_zero]

theorem refTerm_apply (A0 : IVec S16x16x2048 32) (A1 : FVec Ideal S16x16x2048 .f32) (A2 : FVec Ideal S16x16x256x1024 .bf16) (A3 A4 : FVec Ideal S16x1024x2048 .f32)
    (A5 : FVec Ideal S16x2048x1024 .f32) (b e : Fin 16) (c : Fin 256) (d : Fin 1024) :
    refTerm A0 A1 A2 A3 A4 A5 (ix4 b e c d) = ffn (fun s => A0 (ix3 b e s)) (fun s => A1 (ix3 b e s)) (fun k => A2 (ix4 b e c k)) (fun k f => A3 (ix3 e k f))
      (fun k f => A4 (ix3 e k f)) (fun f => A5 (ix3 e f d)) c := by
  unfold ffn hid slotVal
  pointwise [refTerm]
  refine congrArg₂ (· * ·) (Finset.sum_congr rfl fun f _ => ?_) (Finset.sum_congr rfl fun s _ => onehot _ _ _)
  have hg : ∀ A : FVec Ideal S16x1024x2048 .f32, ∑ k, A (ix3 e k f) * A2 (ix4 b e c k) = ∑ k, A2 (ix4 b e c k) * A (ix3 e k f) :=
    fun A => Finset.sum_congr rfl fun k _ => mul_comm _ _
  rw [hg A3, hg A4]
  exact mul_comm _ _

end Cert.ReferenceIdeal.Ffn
end
-- ==== Proof.Proj.Norm.lean ====
/-
  One row scaled by the root of its mean square.
-/
module

public import Idealize.ShloMosaic.Lib.Pointwise

@[expose] public section

noncomputable section

namespace Cert.Rows

open Idealize.ShloMosaic
open scoped BigOperators

/-- Entry `k` of a row over its root mean square (with the layer's small constant under the root), times the gain. -/
def rms (x g : Fin 1024 → EReal) (k : Fin 1024) : EReal :=
  x k * Ideal.rsqrt (Ideal.div (∑ i, x i * x i) (Ideal.ofBits FTy.f32 1149239296#32) + Ideal.ofBits FTy.f32 897988541#32) * g k

end Cert.Rows

end
-- ==== Proof.Proj.Value.lean ====
/-
  The input projection's result array over the extended reals: each token's row, normed, through the weight.
-/
module

public import proofs.«01_k».proof.Proof.Proj.Norm
public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel2Ideal.Proj

open Cert.Kernel2Ideal Cert.Kernel2Ideal.Gen Cert.Rows
open Idealize.ShloMosaic Idealize.ShloMosaic.TcCoe Idealize.ShloMosaic.Tactic Idealize.SL.Sem
open Idealize.ShloMosaic.Pipeline (Dat Cfg Window)
open scoped BigOperators

/-- The layer's formula over the whole arrays: row `t` is token `t % 2048` of sequence `t / 2048`. -/
def projAll (A0 : FVec Ideal S16x2048x1024 .f32) (A1 : FVec Ideal S1024 .f32) (A2 : FVec Ideal S1024x7168 .f32) : FVec Ideal S32768x7168 .bf16 := fun j =>
  ∑ k : Fin 1024, rms (fun i => A0 (ix3 ⟨(j 0).val / 2048, Nat.div_lt_of_lt_mul (j 0).isLt⟩ ⟨(j 0).val % 2048, Nat.mod_lt _ (by decide)⟩ i))
    (fun i => A1 (ix1 i)) k * A2 (ix2 k (j 1))

theorem pay1_apply (x : Vec Ideal S1024x1024 .f32) (g : Vec Ideal S1x1024 .f32) (r k : Fin 1024) :
    k0_pay1 (F := Ideal) x g (ix2 r k) = rms (fun i => x (ix2 r i)) (fun i => g (ix2 0 i)) k := by
  unfold rms
  pointwise [k0_pay1]

theorem pay2_apply (x : Vec Ideal S1024x1024 .bf16) (w : Vec Ideal S1024x3584 .bf16) (r : Fin 1024) (n : Fin 3584) :
    k0_pay2 (F := Ideal) x w (ix2 r n) = ∑ k, x (ix2 r k) * w (ix2 k n) := by
  pointwise [k0_pay2]

theorem rows_apply (A : FVec Ideal S16x2048x1024 .f32) (b : Fin 32768) (k : Fin 1024) :
    shapeCast S32768x1024 A shapeCasts_S16x2048x1024_S32768x1024 (ix2 b k)
      = A (ix3 ⟨b.val / 2048, Nat.div_lt_of_lt_mul b.isLt⟩ ⟨b.val % 2048, Nat.mod_lt _ (by decide)⟩ k) := by
  pointwise
theorem gain_apply (A : FVec Ideal S1024 .f32) (k : Fin 1024) : broadcastInDim S1x1024 ![1] bcast_S1024_S1x1024_1 A (ix2 0 k) = A (ix1 k) := by
  pointwise

variable (m : (ℓ : Loc nD τ sig) → Buf (Elt Ideal) ℓ) (ρ : Dev nD → PrngReg)

/-- At a row block's first point the normed rows are computed, kept and used. -/
theorem outs_even (c : Dev nD) (t : Fin cfg0.N) (h0 : t.val % 2 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  frame_out
/-- At its second point the kept rows are used. -/
theorem outs_odd (c : Dev nD) (t : Fin cfg0.N) (h0 : ¬t.val % 2 = 0) :
    (outsAt0 m c t.val t.isLt).1 = k0_pay2 (outsAt0 m c (t.val - 1) (Nat.lt_of_le_of_lt (Nat.sub_le _ _) t.isLt)).2 (iblk m c 2 t) := by
  rw [outsAt0_B m c t h0]
  frame_out
  simp only [read_unread_whole]

theorem index0 : ∀ t : Fin cfg0.N, win0_0.index t = ![t.val / 2, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 2] := (by decide +kernel : ∀ t : Fin grid0.N, _)
theorem index3 : ∀ t : Fin cfg0.N, win0_3.index t = ![t.val / 2, t.val % 2] := (by decide +kernel : ∀ t : Fin grid0.N, _)

theorem V_v0 (c : Dev nD) : V m c main_v0 = shapeCast S32768x1024 (m ((c : Thread nD τ).loc main_arg0)) shapeCasts_S16x2048x1024_S32768x1024 := by
  entry_read; rfl
theorem V_v1 (c : Dev nD) : V m c main_v1 = broadcastInDim S1x1024 ![1] bcast_S1024_S1x1024_1 (m ((c : Thread nD τ).loc main_arg1)) := by
  entry_read; rfl
theorem V_v2 (c : Dev nD) : V m c main_v2 = truncf (F := Ideal) FTy.bf16 (m ((c : Thread nD τ).loc main_arg2)) bitsLt_bf16_f32 := by
  entry_read; rfl

theorem blk0_at (c : Dev nD) (t : Fin cfg0.N) (r : Fin 1024) (b : Fin 32768) (hb : b.val = t.val / 2 * 1024 + r.val) (k : Fin 1024) :
    iblk m c 0 t (ix2 r k) = m ((c : Thread nD τ).loc main_arg0) (ix3 ⟨b.val / 2048, Nat.div_lt_of_lt_mul b.isLt⟩ ⟨b.val % 2048, Nat.mod_lt _ (by decide)⟩ k) := by
  have h : iblk m c 0 t (ix2 r k) = V m c main_v0 (ix2 b k) := by
    blk_simp [iblk]
    refine congrArg (V m c main_v0) ?_
    funext a; apply Fin.ext
    match a with
    | ⟨0, _⟩ => show (((cfg0.win 0).blk t).view.emb (ix2 r k) 0).val = b.val; blk_simp [index0]; exact hb.symm
    | ⟨1, _⟩ => show (((cfg0.win 0).blk t).view.emb (ix2 r k) 1).val = k.val; blk_simp [index0]
  rw [h, V_v0]
  exact rows_apply _ b k
theorem blk1_at (c : Dev nD) (t : Fin cfg0.N) (k : Fin 1024) : iblk m c 1 t (ix2 0 k) = m ((c : Thread nD τ).loc main_arg1) (ix1 k) := by
  have h : iblk m c 1 t (ix2 0 k) = V m c main_v1 (ix2 0 k) := by
    blk_simp [iblk]
    refine congrArg (V m c main_v1) ?_
    funext a; apply Fin.ext
    match a with
    | ⟨0, _⟩ => show (((cfg0.win 1).blk t).view.emb (ix2 0 k) 0).val = 0; blk_simp [index1]; rfl
    | ⟨1, _⟩ => show (((cfg0.win 1).blk t).view.emb (ix2 0 k) 1).val = k.val; blk_simp [index1]
  rw [h, V_v1]
  exact gain_apply _ k
theorem blk2_at (c : Dev nD) (t : Fin cfg0.N) (n : Fin 3584) (n' : Fin 7168) (hn : n'.val = t.val % 2 * 3584 + n.val) (k : Fin 1024) :
    iblk m c 2 t (ix2 k n) = m ((c : Thread nD τ).loc main_arg2) (ix2 k n') := by
  have h : iblk m c 2 t (ix2 k n) = V m c main_v2 (ix2 k n') := by
    blk_simp [iblk]
    refine congrArg (V m c main_v2) ?_
    funext a; apply Fin.ext
    match a with
    | ⟨0, _⟩ => show (((cfg0.win 2).blk t).view.emb (ix2 k n) 0).val = k.val; blk_simp [index2]
    | ⟨1, _⟩ => show (((cfg0.win 2).blk t).view.emb (ix2 k n) 1).val = n'.val; blk_simp [index2]; exact hn.symm
  rw [h, V_v2]
  rfl
theorem emb3_at (t : Fin cfg0.N) (r : Fin 1024) (b : Fin 32768) (hb : b.val = t.val / 2 * 1024 + r.val)
    (n : Fin 3584) (n' : Fin 7168) (hn : n'.val = t.val % 2 * 3584 + n.val) : ((cfg0.win 3).blk t).view.emb (ix2 r n) = ix2 b n' := by
  funext a; apply Fin.ext
  match a with
  | ⟨0, _⟩ => show (((cfg0.win 3).blk t).view.emb (ix2 r n) 0).val = b.val; blk_simp [index3]; exact hb.symm
  | ⟨1, _⟩ => show (((cfg0.win 3).blk t).view.emb (ix2 r n) 1).val = n'.val; blk_simp [index3]; exact hn.symm

/-- The normed rows of a row block, at whichever of its points they were computed. -/
theorem rows_at (c : Dev nD) (t : Fin cfg0.N) (r : Fin 1024) (b : Fin 32768) (hb : b.val = t.val / 2 * 1024 + r.val) (k : Fin 1024) :
    k0_pay1 (F := Ideal) (iblk m c 0 t) (iblk m c 1 t) (ix2 r k)
      = rms (fun i => m ((c : Thread nD τ).loc main_arg0) (ix3 ⟨b.val / 2048, Nat.div_lt_of_lt_mul b.isLt⟩ ⟨b.val % 2048, Nat.mod_lt _ (by decide)⟩ i))
        (fun i => m ((c : Thread nD τ).loc main_arg1) (ix1 i)) k := by
  refine (pay1_apply _ _ r k).trans ?_
  rw [funext fun i => blk0_at m c t r b hb i, funext fun i => blk1_at m c t i]

theorem out_at (c : Dev nD) (t : Fin cfg0.N) (r : Fin 1024) (b : Fin 32768) (hb : b.val = t.val / 2 * 1024 + r.val)
    (n : Fin 3584) (n' : Fin 7168) (hn : n'.val = t.val % 2 * 3584 + n.val) :
    (outsAt0 m c t.val t.isLt).1 (ix2 r n) = projAll (m ((c : Thread nD τ).loc main_arg0)) (m ((c : Thread nD τ).loc main_arg1)) (m ((c : Thread nD τ).loc main_arg2)) (ix2 b n') := by
  by_cases h0 : t.val % 2 = 0
  · rw [outs_even m c t h0]
    refine (pay2_apply _ _ r n).trans (Finset.sum_congr rfl fun k _ => ?_)
    exact congrArg₂ (· * ·) (rows_at m c t r b hb k) (blk2_at m c t n n' hn k)
  · rw [outs_odd m c t h0]
    have hlt : t.val - 1 < cfg0.N := Nat.lt_of_le_of_lt (Nat.sub_le _ _) t.isLt
    rw [outs_even m c ⟨t.val - 1, hlt⟩ (by show (t.val - 1) % 2 = 0; omega)]
    refine (pay2_apply _ _ r n).trans (Finset.sum_congr rfl fun k _ => ?_)
    exact congrArg₂ (· * ·) (rows_at m c ⟨t.val - 1, hlt⟩ r b (by show b.val = (t.val - 1) / 2 * 1024 + r.val; omega) k) (blk2_at m c t n n' hn k)

theorem final (c : Dev nD) : (dats m 0 c).arrAt 3 cfg0.N
    = projAll (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, n, rfl⟩ : ∃ (r : Fin 1024) (n : Fin 3584), y = ix2 r n := ⟨y 0, y 1, by
    funext a; match a with | ⟨0, _⟩ => rfl | ⟨1, _⟩ => rfl⟩
  have ht : t.val < 64 := lt_of_lt_of_eq t.isLt N_0
  obtain ⟨b, hb⟩ : ∃ b : Fin 32768, b.val = t.val / 2 * 1024 + r.val := ⟨⟨t.val / 2 * 1024 + r.val, by omega⟩, rfl⟩
  obtain ⟨n', hn⟩ : ∃ n' : Fin 7168, n'.val = t.val % 2 * 3584 + n.val := ⟨⟨t.val % 2 * 3584 + n.val, by omega⟩, rfl⟩
  refine (out_at m c t r b hb n n' hn).trans ?_
  exact (congrArg (projAll _ _ _) (emb3_at t r b hb n n' hn)).symm

/-- The run's result and its arguments after it. -/
theorem value : θ_run defs (onTc (τ := τ) (main (F := Ideal))) ⟨m, fun _ => 0, ρ⟩ (fun r => ∀ c : Dev nD,
      r.2.mem ((c.tc : Thread nD τ).loc main_v3) = projAll (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Cert.Kernel2Ideal.Value.run_blocks m ρ)

end Cert.Kernel2Ideal.Proj
end
-- ==== Proof.Proj.RefValue.lean ====
/-
  The input projection's reference over the extended reals, entry by entry.
-/
module

public import proofs.«01_k».proof.Proof.Proj.Value
public import proofs.«01_k».proof.Proof.Gen.Reference2Ideal.Run

@[expose] public section

set_option maxRecDepth 16384

noncomputable section

namespace Cert.Reference2Ideal.Proj

open Cert.Reference2Ideal Cert.Reference2Ideal.Gen Cert.Rows
open Idealize.ShloMosaic Idealize.ShloMosaic.TcCoe Idealize.ShloMosaic.Tactic Idealize.SL.Sem

def refTerm (A0 : FVec Ideal S16x2048x1024 .f32) (A1 : FVec Ideal S1024 .f32) (A2 : FVec Ideal S1024x7168 .f32) : FVec Ideal S32768x7168 .bf16 :=
  truncf .bf16 (shapeCast _ (Host.dotGeneral dot_S16x2048x1024_S1024x7168_S16x2048x7168_2_0_01_1_n_n none (mulf (mulf A0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf A0 A0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 A1))) A2) shapeCasts_S16x2048x7168_S32768x7168) bitsLt_bf16_f32

theorem refTerm_eq (A0 : FVec Ideal S16x2048x1024 .f32) (A1 : FVec Ideal S1024 .f32) (A2 : FVec Ideal S1024x7168 .f32) :
    refTerm A0 A1 A2 = Cert.Kernel2Ideal.Proj.projAll A0 A1 A2 := by
  funext j
  obtain ⟨r, n, rfl⟩ : ∃ (r : Fin 32768) (n : Fin 7168), j = ix2 r n := ⟨j 0, j 1, by
    funext a; match a with | ⟨0, _⟩ => rfl | ⟨1, _⟩ => rfl⟩
  unfold Cert.Kernel2Ideal.Proj.projAll rms
  pointwise [refTerm]

/-- The reference's run: its result is the layer's formula, and its arguments stay. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = Cert.Kernel2Ideal.Proj.projAll (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (refTerm_eq _ _ _), (h c).2⟩) (Cert.Reference2Ideal.Value.run (F := Ideal) m ρ)

end Cert.Reference2Ideal.Proj
end
-- ==== Proof.Merge.Body.lean ====
/-
  The merge kernel's block bodies over the extended reals: each of its four row quarters computes the layer's formula.
-/
module

public import proofs.«01_k».proof.Proof.Proj.Norm
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Rows

open Idealize.ShloMosaic
open scoped BigOperators

/-- Entry `n` of a token's residual stream after the two gated branches: rows `o` and `r` through their projections, gated by
    `ga` and `gr`, summed, through the output projection, added to `x`. -/
def merge (o r ga gr x : Fin 1024 → EReal) (wpa wpl wo : Fin 1024 → Fin 1024 → EReal) (n : Fin 1024) : EReal :=
  x n + ∑ k, (Ideal.logistic (ga k) * (∑ i, o i * wpa i k) + Ideal.logistic (gr k) * (∑ i, r i * wpl i k)) * wo k n

theorem merge_congr {o r ga gr x o' r' ga' gr' x' : Fin 1024 → EReal} {wpa wpl wo wpa' wpl' wo' : Fin 1024 → Fin 1024 → EReal}
    (h0 : ∀ i, o i = o' i) (h1 : ∀ i, r i = r' i) (h2 : ∀ i, ga i = ga' i) (h3 : ∀ i, gr i = gr' i) (h4 : ∀ i, x i = x' i)
    (h5 : ∀ i k, wpa i k = wpa' i k) (h6 : ∀ i k, wpl i k = wpl' i k) (h7 : ∀ i k, wo i k = wo' i k) (n : Fin 1024) :
    merge o r ga gr x wpa wpl wo n = merge o' r' ga' gr' x' wpa' wpl' wo' n := by
  obtain rfl := funext h0; obtain rfl := funext h1; obtain rfl := funext h2; obtain rfl := funext h3; obtain rfl := funext h4
  obtain rfl := funext fun i => funext (h5 i); obtain rfl := funext fun i => funext (h6 i); obtain rfl := funext fun i => funext (h7 i)
  rfl

end Cert.Rows

namespace Cert.Kernel3Ideal.Merge

open Cert.Kernel3Ideal Cert.Kernel3Ideal.Gen Cert.Rows
open Idealize.ShloMosaic Idealize.ShloMosaic.TcCoe Idealize.ShloMosaic.Tactic Idealize.SL.Sem
open scoped BigOperators

section Quarters
variable (o r ga gr : Vec Ideal S256x1024 .bf16) (x : Vec Ideal S256x1024 .f32) (wpa wpl wo : Vec Ideal S1024x1024 .bf16) (g : Vec Ideal S1x1024 .f32)

/-- A quarter's rows of the residual stream. -/
def hq (p : Fin 256) (n : Fin 1024) : EReal :=
  merge (fun i => o (ix2 p i)) (fun i => r (ix2 p i)) (fun i => ga (ix2 p i)) (fun i => gr (ix2 p i)) (fun i => x (ix2 p i))
    (fun i k => wpa (ix2 i k)) (fun i k => wpl (ix2 i k)) (fun i k => wo (ix2 i k)) n

theorem h0 (p : Fin 256) (n : Fin 1024) : k0_pay1 (F := Ideal) o wpa r wpl ga gr x wo (ix2 p n) = hq o r ga gr x wpa wpl wo p n := by
  unfold hq merge
  pointwise [k0_pay1]
theorem h1 (p : Fin 256) (n : Fin 1024) : k0_pay7 (F := Ideal) (k0_pay6 o wpa) r wpl ga gr x wo (ix2 p n) = hq o r ga gr x wpa wpl wo p n := by
  unfold hq merge
  pointwise [k0_pay7, k0_pay6]
theorem h2 (p : Fin 256) (n : Fin 1024) :
    k0_pay15 (F := Ideal) (k0_pay12 r wpl) (k0_pay13 o wpa ga) (k0_pay14 gr) x wo (ix2 p n) = hq o r ga gr x wpa wpl wo p n := by
  unfold hq merge
  pointwise [k0_pay15, k0_pay12, k0_pay13, k0_pay14]
theorem h3 (p : Fin 256) (n : Fin 1024) : k0_pay22 (F := Ideal) o wpa r wpl ga gr x wo (ix2 p n) = hq o r ga gr x wpa wpl wo p n := by
  unfold hq merge
  pointwise [k0_pay22]

theorem n0 (p : Fin 256) (n : Fin 1024) :
    k0_pay4 (F := Ideal) (k0_pay1 o wpa r wpl ga gr x wo) (k0_pay2 o wpa r wpl ga gr x wo) g (ix2 p n)
      = rms (hq o r ga gr x wpa wpl wo p) (fun i => g (ix2 0 i)) n := by
  unfold rms
  simp only [← h0]
  pointwise [k0_pay4, k0_pay3, k0_pay2]
theorem n1 (p : Fin 256) (n : Fin 1024) :
    k0_pay9 (F := Ideal) (k0_pay6 o wpa) r wpl ga gr x wo g (ix2 p n) = rms (hq o r ga gr x wpa wpl wo p) (fun i => g (ix2 0 i)) n := by
  unfold rms
  simp only [← h1]
  pointwise [k0_pay9, k0_pay8]
theorem n2 (p : Fin 256) (n : Fin 1024) :
    k0_pay17 (F := Ideal) (k0_pay12 r wpl) (k0_pay13 o wpa ga) (k0_pay14 gr) x wo g (ix2 p n)
      = rms (hq o r ga gr x wpa wpl wo p) (fun i => g (ix2 0 i)) n := by
  unfold rms
  simp only [← h2]
  pointwise [k0_pay17, k0_pay16]
theorem n3 (p : Fin 256) (n : Fin 1024) :
    k0_pay24 (F := Ideal) (k0_pay22 o wpa r wpl ga gr x wo) g (ix2 p n) = rms (hq o r ga gr x wpa wpl wo p) (fun i => g (ix2 0 i)) n := by
  unfold rms
  simp only [← h3]
  pointwise [k0_pay24, k0_pay23]
end Quarters

section Blocks
variable (x0 x1 x2 x3 : Vec Ideal S1024x1024 .bf16) (x4 : Vec Ideal S1024x1024 .f32) (x5 x6 x7 : Vec Ideal S1024x1024 .bf16)
  (x8 : Vec Ideal S1x1024 .f32) (x9 : Vec Ideal S1024x32 .bf16)

/-- A block's rows of the residual stream. -/
def hb (p n : Fin 1024) : EReal :=
  merge (fun i => x0 (ix2 p i)) (fun i => x1 (ix2 p i)) (fun i => x2 (ix2 p i)) (fun i => x3 (ix2 p i)) (fun i => x4 (ix2 p i))
    (fun i k => x5 (ix2 i k)) (fun i k => x6 (ix2 i k)) (fun i k => x7 (ix2 i k)) n

theorem ld_rows {e : EltTy} (X : S1024x1024.Idx → Elt Ideal e) (q : Nat) (inb) (p : Fin 256) (P : Fin 1024) (h : P.val = q + p.val) (k : Fin 1024) :
    View.ld X (Rect.unit (s := S1024x1024) ![q, 0] S256x1024.size inb) (ix2 p k) = X (ix2 P k) :=
  View.ld_unit_apply_of X _ _ inb (ix2 p k) (ix2 P k) fun a => match a with
    | ⟨0, _⟩ => h
    | ⟨1, _⟩ => (Nat.zero_add _).symm

theorem ld_all (X : Vec Ideal S1024x1024 .bf16) : View.ld X r0_1 = X :=
  View.ld_unit_lit inb_S1024x1024_S1024x1024_0_0 X (by decide)
theorem ld_gain (X : Vec Ideal S1x1024 .f32) : View.ld X r0_2 = X :=
  View.ld_unit_lit inb_S1x1024_S1x1024_0_0 X (by decide)

theorem hq_rows (q : Nat) (inb) (p : Fin 256) (P : Fin 1024) (h : P.val = q + p.val) :
    hq (View.ld x0 (Rect.unit (s := S1024x1024) ![q, 0] S256x1024.size inb)) (View.ld x1 (Rect.unit (s := S1024x1024) ![q, 0] S256x1024.size inb))
      (View.ld x2 (Rect.unit (s := S1024x1024) ![q, 0] S256x1024.size inb)) (View.ld x3 (Rect.unit (s := S1024x1024) ![q, 0] S256x1024.size inb))
      (View.ld x4 (Rect.unit (s := S1024x1024) ![q, 0] S256x1024.size inb)) (View.ld x5 r0_1) (View.ld x6 r0_1) (View.ld x7 r0_1) p
      = hb x0 x1 x2 x3 x4 x5 x6 x7 P := by
  funext n
  exact merge_congr (ld_rows x0 q inb p P h) (ld_rows x1 q inb p P h) (ld_rows x2 q inb p P h) (ld_rows x3 q inb p P h) (ld_rows x4 q inb p P h)
    (fun i k => congrFun (ld_all x5) (ix2 i k)) (fun i k => congrFun (ld_all x6) (ix2 i k)) (fun i k => congrFun (ld_all x7) (ix2 i k)) n

theorem out10_apply (P n : Fin 1024) : out0_10 x0 x1 x2 x3 x4 x5 x6 x7 x8 x9 (ix2 P n) = hb x0 x1 x2 x3 x4 x5 x6 x7 P n := by
  canon_tiles y hy
  all_goals
    obtain ⟨p, k, rfl⟩ : ∃ (p : Fin 256) (k : Fin 1024), y = ix2 p k := ⟨y 0, y 1, by
      funext a; match a with | ⟨0, _⟩ => rfl | ⟨1, _⟩ => rfl⟩
    obtain rfl : n = k := Fin.ext hy1
  case piece0 => exact (h3 _ _ _ _ _ _ _ _ p n).trans (congrFun (hq_rows x0 x1 x2 x3 x4 x5 x6 x7 768 inb_S1024x1024_S256x1024_768_0 p P hy0) n)
  case piece1 => exact (h2 _ _ _ _ _ _ _ _ p n).trans (congrFun (hq_rows x0 x1 x2 x3 x4 x5 x6 x7 512 inb_S1024x1024_S256x1024_512_0 p P hy0) n)
  case piece2 => exact (h1 _ _ _ _ _ _ _ _ p n).trans (congrFun (hq_rows x0 x1 x2 x3 x4 x5 x6 x7 256 inb_S1024x1024_S256x1024_256_0 p P hy0) n)
  case piece3 => exact (h0 _ _ _ _ _ _ _ _ p n).trans (congrFun (hq_rows x0 x1 x2 x3 x4 x5 x6 x7 0 inb_S1024x1024_S256x1024_0_0 p P (hy0.trans (Nat.zero_add _).symm)) n)

theorem rms_rows (q : Nat) (inb) (p : Fin 256) (P : Fin 1024) (h : P.val = q + p.val) (n : Fin 1024) :
    rms (hq (View.ld x0 (Rect.unit (s := S1024x1024) ![q, 0] S256x1024.size inb)) (View.ld x1 (Rect.unit (s := S1024x1024) ![q, 0] S256x1024.size inb))
      (View.ld x2 (Rect.unit (s := S1024x1024) ![q, 0] S256x1024.size inb)) (View.ld x3 (Rect.unit (s := S1024x1024) ![q, 0] S256x1024.size inb))
      (View.ld x4 (Rect.unit (s := S1024x1024) ![q, 0] S256x1024.size inb)) (View.ld x5 r0_1) (View.ld x6 r0_1) (View.ld x7 r0_1) p)
      (fun i => View.ld x8 r0_2 (ix2 0 i)) n = rms (hb x0 x1 x2 x3 x4 x5 x6 x7 P) (fun i => x8 (ix2 0 i)) n := by
  rw [hq_rows x0 x1 x2 x3 x4 x5 x6 x7 q inb p P h]
  exact congrArg (fun f => rms _ f n) (funext fun i => congrFun (ld_gain x8) (ix2 0 i))

theorem out11_apply (P n : Fin 1024) :
    out0_11 x0 x1 x2 x3 x4 x5 x6 x7 x8 x9 (ix2 P n) = rms (hb x0 x1 x2 x3 x4 x5 x6 x7 P) (fun i => x8 (ix2 0 i)) n := by
  canon_tiles y hy
  all_goals
    obtain ⟨p, k, rfl⟩ : ∃ (p : Fin 256) (k : Fin 1024), y = ix2 p k := ⟨y 0, y 1, by
      funext a; match a with | ⟨0, _⟩ => rfl | ⟨1, _⟩ => rfl⟩
    obtain rfl : n = k := Fin.ext hy1
  case piece0 => exact (n3 _ _ _ _ _ _ _ _ _ p n).trans (rms_rows x0 x1 x2 x3 x4 x5 x6 x7 x8 768 inb_S1024x1024_S256x1024_768_0 p P hy0 n)
  case piece1 => exact (n2 _ _ _ _ _ _ _ _ _ p n).trans (rms_rows x0 x1 x2 x3 x4 x5 x6 x7 x8 512 inb_S1024x1024_S256x1024_512_0 p P hy0 n)
  case piece2 => exact (n1 _ _ _ _ _ _ _ _ _ p n).trans (rms_rows x0 x1 x2 x3 x4 x5 x6 x7 x8 256 inb_S1024x1024_S256x1024_256_0 p P hy0 n)
  case piece3 => exact (n0 _ _ _ _ _ _ _ _ _ p n).trans (rms_rows x0 x1 x2 x3 x4 x5 x6 x7 x8 0 inb_S1024x1024_S256x1024_0_0 p P (hy0.trans (Nat.zero_add _).symm) n)

end Blocks

end Cert.Kernel3Ideal.Merge
end
-- ==== Proof.Merge.Final.lean ====
/-
  The merge call's two result arrays over the extended reals: the residual stream after the mixers, and its norm.
-/
module

public import proofs.«01_k».proof.Proof.Merge.Body
public import Idealize.ShloMosaic.Lib.Claim

@[expose] public section

set_option maxRecDepth 16384

noncomputable section

namespace Cert.Kernel3Ideal.Merge

open Cert.Kernel3Ideal Cert.Kernel3Ideal.Gen Cert.Rows
open Idealize.ShloMosaic Idealize.ShloMosaic.TcCoe Idealize.ShloMosaic.Tactic Idealize.SL.Sem
open Idealize.ShloMosaic.Pipeline (Dat Cfg Window)
open scoped BigOperators

/-- Token `b`'s row of the residual stream after the mixers: the gates are columns 5120 and 6144 on of the input projection. -/
def hRow (A0 A1 : FVec Ideal S32768x1024 .bf16) (A2 : FVec Ideal S32768x7168 .bf16) (A3 : FVec Ideal S16x2048x1024 .f32)
    (A4 A5 A6 : FVec Ideal S1024x1024 .f32) (b : Fin 32768) : Fin 1024 → EReal :=
  merge (fun i => A0 (ix2 b i)) (fun i => A1 (ix2 b i)) (fun i => A2 (ix2 b ⟨5120 + i.val, by omega⟩)) (fun i => A2 (ix2 b ⟨6144 + i.val, by omega⟩))
    (fun i => A3 (ix3 ⟨b.val / 2048, Nat.div_lt_of_lt_mul b.isLt⟩ ⟨b.val % 2048, Nat.mod_lt _ (by decide)⟩ i))
    (fun i k => A4 (ix2 i k)) (fun i k => A5 (ix2 i k)) (fun i k => A6 (ix2 i k))
def hAll (A0 A1 : FVec Ideal S32768x1024 .bf16) (A2 : FVec Ideal S32768x7168 .bf16) (A3 : FVec Ideal S16x2048x1024 .f32)
    (A4 A5 A6 : FVec Ideal S1024x1024 .f32) : FVec Ideal S32768x1024 .f32 := fun j => hRow A0 A1 A2 A3 A4 A5 A6 (j 0) (j 1)
/-- The residual stream's rows, normed. -/
def hnAll (A0 A1 : FVec Ideal S32768x1024 .bf16) (A2 : FVec Ideal S32768x7168 .bf16) (A3 : FVec Ideal S16x2048x1024 .f32)
    (A4 A5 A6 : FVec Ideal S1024x1024 .f32) (A7 : FVec Ideal S1024 .f32) : FVec Ideal S32768x1024 .bf16 := fun j =>
  rms (hRow A0 A1 A2 A3 A4 A5 A6 (j 0)) (fun i => A7 (ix1 i)) (j 1)

theorem tokens_apply (A : FVec Ideal S16x2048x1024 .f32) (b : Fin 32768) (k : Fin 1024) :
    shapeCast S32768x1024 A shapeCasts_S16x2048x1024_S32768x1024 (ix2 b k)
      = A (ix3 ⟨b.val / 2048, Nat.div_lt_of_lt_mul b.isLt⟩ ⟨b.val % 2048, Nat.mod_lt _ (by decide)⟩ k) := by
  pointwise
theorem gain_apply (A : FVec Ideal S1024 .f32) (k : Fin 1024) : broadcastInDim S1x1024 ![1] bcast_S1024_S1x1024_1 A (ix2 0 k) = A (ix1 k) := by
  pointwise

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 5] := (by decide +kernel : ∀ t : Fin grid0.N, _)
theorem index3 : ∀ t : Fin cfg0.N, win0_3.index t = ![t.val, 6] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)

theorem V_main_arg0 (c : Dev nD) : V m c main_arg0 = m ((c : Thread nD τ).loc main_arg0) := by
  entry_read; rfl
theorem V_main_arg1 (c : Dev nD) : V m c main_arg1 = m ((c : Thread nD τ).loc main_arg1) := by
  entry_read; rfl
theorem V_main_arg2 (c : Dev nD) : V m c main_arg2 = m ((c : Thread nD τ).loc main_arg2) := by
  entry_read; rfl
theorem V_main_v5 (c : Dev nD) : V m c main_v5 = shapeCast S32768x1024 (m ((c : Thread nD τ).loc main_arg3)) shapeCasts_S16x2048x1024_S32768x1024 := by
  entry_read; rfl
theorem V_main_v6 (c : Dev nD) : V m c main_v6 = truncf (F := Ideal) FTy.bf16 (m ((c : Thread nD τ).loc main_arg4)) bitsLt_bf16_f32 := by
  entry_read; rfl
theorem V_main_v7 (c : Dev nD) : V m c main_v7 = truncf (F := Ideal) FTy.bf16 (m ((c : Thread nD τ).loc main_arg5)) bitsLt_bf16_f32 := by
  entry_read; rfl
theorem V_main_v8 (c : Dev nD) : V m c main_v8 = truncf (F := Ideal) FTy.bf16 (m ((c : Thread nD τ).loc main_arg6)) bitsLt_bf16_f32 := by
  entry_read; rfl
theorem V_main_v9 (c : Dev nD) : V m c main_v9 = broadcastInDim S1x1024 ![1] bcast_S1024_S1x1024_1 (m ((c : Thread nD τ).loc main_arg7)) := by
  entry_read; rfl

theorem blk0_at (c : Dev nD) (t : Fin cfg0.N) (r : Fin 1024) (b : Fin 32768) (hb : b.val = t.val * 1024 + r.val) (k : Fin 1024) :
    iblk m c 0 t (ix2 r k) = m ((c : Thread nD τ).loc main_arg0) (ix2 b k) := by
  have h : iblk m c 0 t (ix2 r k) = V m c main_arg0 (ix2 b k) := by
    blk_simp [iblk]
    refine congrArg (V m c main_arg0) ?_
    funext a; apply Fin.ext
    match a with
    | ⟨0, _⟩ => show (((cfg0.win 0).blk t).view.emb (ix2 r k) 0).val = b.val; blk_simp [index0]; exact hb.symm
    | ⟨1, _⟩ => show (((cfg0.win 0).blk t).view.emb (ix2 r k) 1).val = k.val; blk_simp [index0]
  rw [h, V_main_arg0]
theorem blk1_at (c : Dev nD) (t : Fin cfg0.N) (r : Fin 1024) (b : Fin 32768) (hb : b.val = t.val * 1024 + r.val) (k : Fin 1024) :
    iblk m c 1 t (ix2 r k) = m ((c : Thread nD τ).loc main_arg1) (ix2 b k) := by
  have h : iblk m c 1 t (ix2 r k) = V m c main_arg1 (ix2 b k) := by
    blk_simp [iblk]
    refine congrArg (V m c main_arg1) ?_
    funext a; apply Fin.ext
    match a with
    | ⟨0, _⟩ => show (((cfg0.win 1).blk t).view.emb (ix2 r k) 0).val = b.val; blk_simp [index1]; exact hb.symm
    | ⟨1, _⟩ => show (((cfg0.win 1).blk t).view.emb (ix2 r k) 1).val = k.val; blk_simp [index1]
  rw [h, V_main_arg1]
theorem blk2_at (c : Dev nD) (t : Fin cfg0.N) (r : Fin 1024) (b : Fin 32768) (hb : b.val = t.val * 1024 + r.val) (k : Fin 1024) :
    iblk m c 2 t (ix2 r k) = m ((c : Thread nD τ).loc main_arg2) (ix2 b ⟨5120 + k.val, by omega⟩) := by
  have h : iblk m c 2 t (ix2 r k) = V m c main_arg2 (ix2 b ⟨5120 + k.val, by omega⟩) := by
    blk_simp [iblk]
    refine congrArg (V m c main_arg2) ?_
    funext a; apply Fin.ext
    match a with
    | ⟨0, _⟩ => show (((cfg0.win 2).blk t).view.emb (ix2 r k) 0).val = b.val; blk_simp [index2]; exact hb.symm
    | ⟨1, _⟩ => show (((cfg0.win 2).blk t).view.emb (ix2 r k) 1).val = 5120 + k.val; blk_simp [index2]
  rw [h, V_main_arg2]
theorem blk3_at (c : Dev nD) (t : Fin cfg0.N) (r : Fin 1024) (b : Fin 32768) (hb : b.val = t.val * 1024 + r.val) (k : Fin 1024) :
    iblk m c 3 t (ix2 r k) = m ((c : Thread nD τ).loc main_arg2) (ix2 b ⟨6144 + k.val, by omega⟩) := by
  have h : iblk m c 3 t (ix2 r k) = V m c main_arg2 (ix2 b ⟨6144 + k.val, by omega⟩) := by
    blk_simp [iblk]
    refine congrArg (V m c main_arg2) ?_
    funext a; apply Fin.ext
    match a with
    | ⟨0, _⟩ => show (((cfg0.win 3).blk t).view.emb (ix2 r k) 0).val = b.val; blk_simp [index3]; exact hb.symm
    | ⟨1, _⟩ => show (((cfg0.win 3).blk t).view.emb (ix2 r k) 1).val = 6144 + k.val; blk_simp [index3]
  rw [h, V_main_arg2]
theorem blk4_at (c : Dev nD) (t : Fin cfg0.N) (r : Fin 1024) (b : Fin 32768) (hb : b.val = t.val * 1024 + r.val) (k : Fin 1024) :
    iblk m c 4 t (ix2 r k) = m ((c : Thread nD τ).loc main_arg3) (ix3 ⟨b.val / 2048, Nat.div_lt_of_lt_mul b.isLt⟩ ⟨b.val % 2048, Nat.mod_lt _ (by decide)⟩ k) := by
  have h : iblk m c 4 t (ix2 r k) = V m c main_v5 (ix2 b k) := by
    blk_simp [iblk]
    refine congrArg (V m c main_v5) ?_
    funext a; apply Fin.ext
    match a with
    | ⟨0, _⟩ => show (((cfg0.win 4).blk t).view.emb (ix2 r k) 0).val = b.val; blk_simp [index4]; exact hb.symm
    | ⟨1, _⟩ => show (((cfg0.win 4).blk t).view.emb (ix2 r k) 1).val = k.val; blk_simp [index4]
  rw [h, V_main_v5]
  exact tokens_apply _ b k
theorem blk5_at (c : Dev nD) (t : Fin cfg0.N) (i k : Fin 1024) :
    iblk m c 5 t (ix2 i k) = m ((c : Thread nD τ).loc main_arg4) (ix2 i k) := by
  have h : iblk m c 5 t (ix2 i k) = V m c main_v6 (ix2 i k) := by
    blk_simp [iblk]
    refine congrArg (V m c main_v6) ?_
    funext a; apply Fin.ext
    match a with
    | ⟨0, _⟩ => show (((cfg0.win 5).blk t).view.emb (ix2 i k) 0).val = i.val; blk_simp [index5]
    | ⟨1, _⟩ => show (((cfg0.win 5).blk t).view.emb (ix2 i k) 1).val = k.val; blk_simp [index5]
  rw [h, V_main_v6]
  rfl
theorem blk6_at (c : Dev nD) (t : Fin cfg0.N) (i k : Fin 1024) :
    iblk m c 6 t (ix2 i k) = m ((c : Thread nD τ).loc main_arg5) (ix2 i k) := by
  have h : iblk m c 6 t (ix2 i k) = V m c main_v7 (ix2 i k) := by
    blk_simp [iblk]
    refine congrArg (V m c main_v7) ?_
    funext a; apply Fin.ext
    match a with
    | ⟨0, _⟩ => show (((cfg0.win 6).blk t).view.emb (ix2 i k) 0).val = i.val; blk_simp [index6]
    | ⟨1, _⟩ => show (((cfg0.win 6).blk t).view.emb (ix2 i k) 1).val = k.val; blk_simp [index6]
  rw [h, V_main_v7]
  rfl
theorem blk7_at (c : Dev nD) (t : Fin cfg0.N) (i k : Fin 1024) :
    iblk m c 7 t (ix2 i k) = m ((c : Thread nD τ).loc main_arg6) (ix2 i k) := by
  have h : iblk m c 7 t (ix2 i k) = V m c main_v8 (ix2 i k) := by
    blk_simp [iblk]
    refine congrArg (V m c main_v8) ?_
    funext a; apply Fin.ext
    match a with
    | ⟨0, _⟩ => show (((cfg0.win 7).blk t).view.emb (ix2 i k) 0).val = i.val; blk_simp [index7]
    | ⟨1, _⟩ => show (((cfg0.win 7).blk t).view.emb (ix2 i k) 1).val = k.val; blk_simp [index7]
  rw [h, V_main_v8]
  rfl
theorem blk8_at (c : Dev nD) (t : Fin cfg0.N) (k : Fin 1024) :
    iblk m c 8 t (ix2 0 k) = m ((c : Thread nD τ).loc main_arg7) (ix1 k) := by
  have h : iblk m c 8 t (ix2 0 k) = V m c main_v9 (ix2 0 k) := by
    blk_simp [iblk]
    refine congrArg (V m c main_v9) ?_
    funext a; apply Fin.ext
    match a with
    | ⟨0, _⟩ => show (((cfg0.win 8).blk t).view.emb (ix2 0 k) 0).val = 0; blk_simp [index8]; rfl
    | ⟨1, _⟩ => show (((cfg0.win 8).blk t).view.emb (ix2 0 k) 1).val = k.val; blk_simp [index8]
  rw [h, V_main_v9]
  exact gain_apply _ k
theorem emb10_at (t : Fin cfg0.N) (r : Fin 1024) (b : Fin 32768) (hb : b.val = t.val * 1024 + r.val) (k : Fin 1024) :
    ((cfg0.win 10).blk t).view.emb (ix2 r k) = ix2 b k := by
  funext a; apply Fin.ext
  match a with
  | ⟨0, _⟩ => show (((cfg0.win 10).blk t).view.emb (ix2 r k) 0).val = b.val; blk_simp [index10]; exact hb.symm
  | ⟨1, _⟩ => show (((cfg0.win 10).blk t).view.emb (ix2 r k) 1).val = k.val; blk_simp [index10]
theorem emb11_at (t : Fin cfg0.N) (r : Fin 1024) (b : Fin 32768) (hb : b.val = t.val * 1024 + r.val) (k : Fin 1024) :
    ((cfg0.win 11).blk t).view.emb (ix2 r k) = ix2 b k := by
  funext a; apply Fin.ext
  match a with
  | ⟨0, _⟩ => show (((cfg0.win 11).blk t).view.emb (ix2 r k) 0).val = b.val; blk_simp [index11]; exact hb.symm
  | ⟨1, _⟩ => show (((cfg0.win 11).blk t).view.emb (ix2 r k) 1).val = k.val; blk_simp [index11]

theorem hb_at (c : Dev nD) (t : Fin cfg0.N) (r : Fin 1024) (b : Fin 32768) (hb' : b.val = t.val * 1024 + r.val) :
    hb (iblk m c 0 t) (iblk m c 1 t) (iblk m c 2 t) (iblk m c 3 t) (iblk m c 4 t) (iblk m c 5 t) (iblk m c 6 t) (iblk m c 7 t) r
      = hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b := by
  funext n
  exact merge_congr (blk0_at m c t r b hb') (blk1_at m c t r b hb') (blk2_at m c t r b hb') (blk3_at m c t r b hb') (blk4_at m c t r b hb')
    (blk5_at m c t) (blk6_at m c t) (blk7_at m c t) n

theorem final10 (c : Dev nD) : (dats m 0 c).arrAt 10 cfg0.N
    = hAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  obtain ⟨r, n, rfl⟩ : ∃ (r n : Fin 1024), y = ix2 r n := ⟨y 0, y 1, by
    funext a; match a with | ⟨0, _⟩ => rfl | ⟨1, _⟩ => rfl⟩
  have ht : t.val < 32 := lt_of_lt_of_eq t.isLt N_0
  obtain ⟨b, hb'⟩ : ∃ b : Fin 32768, b.val = t.val * 1024 + r.val := ⟨⟨t.val * 1024 + r.val, by omega⟩, rfl⟩
  refine (out10_apply _ _ _ _ _ _ _ _ _ _ r n).trans ?_
  rw [hb_at m c t r b hb', emb10_at t r b hb' n]
  rfl

theorem final11 (c : Dev nD) : (dats m 0 c).arrAt 11 cfg0.N
    = hnAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  obtain ⟨r, n, rfl⟩ : ∃ (r n : Fin 1024), y = ix2 r n := ⟨y 0, y 1, by
    funext a; match a with | ⟨0, _⟩ => rfl | ⟨1, _⟩ => rfl⟩
  have ht : t.val < 32 := lt_of_lt_of_eq t.isLt N_0
  obtain ⟨b, hb'⟩ : ∃ b : Fin 32768, b.val = t.val * 1024 + r.val := ⟨⟨t.val * 1024 + r.val, by omega⟩, rfl⟩
  refine (out11_apply _ _ _ _ _ _ _ _ _ _ r n).trans ?_
  rw [hb_at m c t r b hb', emb11_at t r b hb' n]
  exact congrArg (fun f => rms _ f n) (funext fun i => blk8_at m c t i)

/-- The run's two results and its arguments after it. -/
theorem value : θ_run defs (onTc (τ := τ) (main (F := Ideal))) ⟨m, fun _ => 0, ρ⟩ (fun r => ∀ c : Dev nD,
      r.2.mem ((c.tc : Thread nD τ).loc main_v10_0) = hAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v10_1) = hnAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final10 m c), (h c).2.1.trans (final11 m c), (h c).2.2.2⟩) (Cert.Kernel3Ideal.Value.run_blocks m ρ)

end Cert.Kernel3Ideal.Merge
end
-- ==== Proof.Merge.RefValue.lean ====
/-
  The merge call's reference over the extended reals, entry by entry.
-/
module

public import proofs.«01_k».proof.Proof.Merge.Final
public import proofs.«01_k».proof.Proof.Gen.Reference3Ideal.Run

@[expose] public section

set_option maxRecDepth 16384

noncomputable section

namespace Cert.Reference3Ideal.Merge

open Cert.Reference3Ideal Cert.Reference3Ideal.Gen Cert.Rows
open Idealize.ShloMosaic Idealize.ShloMosaic.TcCoe Idealize.ShloMosaic.Tactic Idealize.SL.Sem

def hTerm (A0 A1 : FVec Ideal S32768x1024 .bf16) (A2 : FVec Ideal S32768x7168 .bf16) (A3 : FVec Ideal S16x2048x1024 .f32)
    (A4 A5 A6 : FVec Ideal S1024x1024 .f32) : FVec Ideal S32768x1024 .f32 :=
  addf (shapeCast S32768x1024 A3 shapeCasts_S16x2048x1024_S32768x1024) (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 5120] A2 slices_S32768x7168_S32768x1024_0_5120) bitsLt_bf16_f32))))) (Host.dotGeneral dot_S32768x1024_S1024x1024_S32768x1024_1_0_0_1_n_n none (extf .f32 A0 bitsLt_bf16_f32) A4)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 6144] A2 slices_S32768x7168_S32768x1024_0_6144) bitsLt_bf16_f32))))) (Host.dotGeneral dot_S32768x1024_S1024x1024_S32768x1024_1_0_0_1_n_n none (extf .f32 A1 bitsLt_bf16_f32) A5))) A6)

def hnTerm (H : FVec Ideal S32768x1024 .f32) (A7 : FVec Ideal S1024 .f32) : FVec Ideal S32768x1024 .bf16 :=
  truncf .bf16 (mulf (mulf H (broadcastInDim S32768x1024 ![0, 1] bcast_S32768x1_S32768x1024_0_1 (Host.rsqrt (addf (Host.divf (broadcastInDim S32768x1 ![0] bcast_S32768_S32768x1_0 (Host.reduceAdd (mulf H H) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 A7))) bitsLt_bf16_f32

theorem hTerm_apply (A0 A1 : FVec Ideal S32768x1024 .bf16) (A2 : FVec Ideal S32768x7168 .bf16) (A3 : FVec Ideal S16x2048x1024 .f32)
    (A4 A5 A6 : FVec Ideal S1024x1024 .f32) (b : Fin 32768) (n : Fin 1024) :
    hTerm A0 A1 A2 A3 A4 A5 A6 (ix2 b n) = Cert.Kernel3Ideal.Merge.hRow A0 A1 A2 A3 A4 A5 A6 b n := by
  unfold Cert.Kernel3Ideal.Merge.hRow merge
  pointwise [hTerm]
  rfl

theorem hnTerm_apply (H : FVec Ideal S32768x1024 .f32) (A7 : FVec Ideal S1024 .f32) (b : Fin 32768) (n : Fin 1024) :
    hnTerm H A7 (ix2 b n) = rms (fun i => H (ix2 b i)) (fun i => A7 (ix1 i)) n := by
  unfold rms
  pointwise [hnTerm]

theorem hTerm_eq (A0 A1 : FVec Ideal S32768x1024 .bf16) (A2 : FVec Ideal S32768x7168 .bf16) (A3 : FVec Ideal S16x2048x1024 .f32)
    (A4 A5 A6 : FVec Ideal S1024x1024 .f32) : hTerm A0 A1 A2 A3 A4 A5 A6 = Cert.Kernel3Ideal.Merge.hAll A0 A1 A2 A3 A4 A5 A6 := by
  funext j
  obtain ⟨b, n, rfl⟩ : ∃ (b : Fin 32768) (n : Fin 1024), j = ix2 b n := ⟨j 0, j 1, by
    funext a; match a with | ⟨0, _⟩ => rfl | ⟨1, _⟩ => rfl⟩
  exact hTerm_apply A0 A1 A2 A3 A4 A5 A6 b n
theorem hnTerm_eq (A0 A1 : FVec Ideal S32768x1024 .bf16) (A2 : FVec Ideal S32768x7168 .bf16) (A3 : FVec Ideal S16x2048x1024 .f32)
    (A4 A5 A6 : FVec Ideal S1024x1024 .f32) (A7 : FVec Ideal S1024 .f32) :
    hnTerm (hTerm A0 A1 A2 A3 A4 A5 A6) A7 = Cert.Kernel3Ideal.Merge.hnAll A0 A1 A2 A3 A4 A5 A6 A7 := by
  funext j
  obtain ⟨b, n, rfl⟩ : ∃ (b : Fin 32768) (n : Fin 1024), j = ix2 b n := ⟨j 0, j 1, by
    funext a; match a with | ⟨0, _⟩ => rfl | ⟨1, _⟩ => rfl⟩
  refine (hnTerm_apply _ A7 b n).trans ?_
  exact congrArg (fun f => rms f _ n) (funext fun i => hTerm_apply A0 A1 A2 A3 A4 A5 A6 b i)

/-- The reference's run: its results are the layer's formulas, and its arguments stay. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25) = Cert.Kernel3Ideal.Merge.hAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v39) = Cert.Kernel3Ideal.Merge.hnAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (hTerm_eq _ _ _ _ _ _ _), (h c).2.1.trans (hnTerm_eq _ _ _ _ _ _ _ _), (h c).2.2⟩)
    (Cert.Reference3Ideal.Value.run (F := Ideal) m ρ)

end Cert.Reference3Ideal.Merge
end
-- ==== Proof.Affinity.Soft.lean ====
/-
  A row's normed values are finite whatever the row, and the router's logits computed in two halves are its plain logits.
-/
module

public import proofs.«01_k».proof.Proof.Proj.Norm

@[expose] public section

noncomputable section

namespace Cert.Rows

open Idealize.ShloMosaic
open scoped BigOperators

/-- Neither infinity. -/
def Fine (x : EReal) : Prop := ∃ r : ℝ, x = (r : EReal)

theorem Fine.mul {x y : EReal} (hx : Fine x) (hy : Fine y) : Fine (x * y) := by
  obtain ⟨a, rfl⟩ := hx; obtain ⟨b, rfl⟩ := hy
  exact ⟨a * b, (EReal.coe_mul a b).symm⟩
theorem Fine.add {x y : EReal} (hx : Fine x) (hy : Fine y) : Fine (x + y) := by
  obtain ⟨a, rfl⟩ := hx; obtain ⟨b, rfl⟩ := hy
  exact ⟨a + b, (EReal.coe_add a b).symm⟩
theorem Fine.sub_self {x : EReal} (hx : Fine x) : x - x = 0 := by
  obtain ⟨a, rfl⟩ := hx
  rw [← EReal.coe_sub, _root_.sub_self]; rfl
theorem coe_sum {n : Nat} (r : Fin n → ℝ) : ((∑ i, r i : ℝ) : EReal) = ∑ i, (r i : EReal) := by
  induction n with
  | zero => rfl
  | succ n ih => rw [Fin.sum_univ_succ, Fin.sum_univ_succ, EReal.coe_add, ih]
theorem fine_of_ne {x : EReal} (h1 : x ≠ ⊥) (h2 : x ≠ ⊤) : Fine x := ⟨x.toReal, (EReal.coe_toReal h2 h1).symm⟩
theorem fine_zero : Fine 0 := ⟨0, rfl⟩

theorem sq_nonneg' (x : EReal) : 0 ≤ x * x := by
  induction x with
  | bot => simp
  | top => simp
  | coe r => rw [← EReal.coe_mul]; exact EReal.coe_nonneg.2 (mul_self_nonneg r)

theorem ofBits_1024 : Ideal.ofBits FTy.f32 1149239296#32 = ((1024 : ℝ) : EReal) := by
  simp [Ideal.ofBits, Ideal.ieee, -EReal.coe_mul]; norm_num
theorem ofBits_eps : ∃ e : ℝ, 0 < e ∧ Ideal.ofBits FTy.f32 897988541#32 = (e : EReal) := by
  refine ⟨_, ?_, by simp [Ideal.ofBits, Ideal.ieee, -EReal.coe_mul]; rfl⟩
  norm_num

theorem rsqrt_fine {r : ℝ} (h : 0 < r) : Fine (Ideal.rsqrt (r : EReal)) := by
  refine ⟨(Real.sqrt r)⁻¹, ?_⟩
  show (if r < 0 then ⊥ else if r = 0 then ⊤ else (((Real.sqrt r)⁻¹ : ℝ) : EReal)) = _
  rw [if_neg (not_lt.2 h.le), if_neg h.ne']

theorem div_1024 (x : EReal) : Ideal.div x ((1024 : ℝ) : EReal) = x * ((1024⁻¹ : ℝ) : EReal) := by
  unfold Ideal.div
  rw [if_neg (by norm_num), ← EReal.coe_inv]

/-- A row's value over its root mean square is finite: an infinite value makes the mean square infinite, and its inverse root 0. -/
theorem rms_fine (x g : Fin 1024 → EReal) (hg : ∀ i, Fine (g i)) (k : Fin 1024) : Fine (rms x g k) := by
  unfold rms
  refine Fine.mul ?_ (hg k)
  obtain ⟨e, he, hE⟩ := ofBits_eps
  rw [hE, ofBits_1024, div_1024]
  by_cases hx : ∀ i, Fine (x i)
  · choose r hr using hx
    obtain rfl : x = fun i => (r i : EReal) := funext hr
    have hs : (∑ i, (r i : EReal) * (r i : EReal)) = ((∑ i, r i * r i : ℝ) : EReal) := by
      rw [coe_sum]; exact Finset.sum_congr rfl fun i _ => (EReal.coe_mul _ _).symm
    have h0 : (0 : ℝ) ≤ ∑ i, r i * r i := Finset.sum_nonneg fun i _ => mul_self_nonneg _
    simp only [hs]
    rw [← EReal.coe_mul, ← EReal.coe_add]
    exact Fine.mul ⟨_, rfl⟩ (rsqrt_fine (by positivity))
  · obtain ⟨i, hi⟩ := not_forall.1 hx
    have hi' : x i * x i = ⊤ := by
      by_cases h1 : x i = ⊥
      · rw [h1]; exact EReal.bot_mul_bot
      · by_cases h2 : x i = ⊤
        · rw [h2]; exact EReal.top_mul_top
        · exact absurd (fine_of_ne h1 h2) hi
    have hs : (∑ i, x i * x i) = ⊤ := by
      refine top_le_iff.1 (le_of_eq_of_le hi'.symm ?_)
      exact Finset.single_le_sum (f := fun i => x i * x i) (fun i _ => sq_nonneg' (x i)) (Finset.mem_univ i)
    rw [hs, EReal.top_mul_coe_of_pos (by norm_num), EReal.top_add_coe]
    show Fine (x k * 0)
    rw [mul_zero]
    exact fine_zero

theorem ofBits_inf : Ideal.ofBits FTy.f32 2139095040#32 = ⊤ := by
  simp [Ideal.ofBits, Ideal.ieee]

/-- A value whose magnitude compares below infinity is finite. -/
theorem fine_of_lt {x : EReal} (h : Ideal.cmp .olt (max x (-x)) (Ideal.ofBits FTy.f32 2139095040#32) = 1#1) : Fine x := by
  rw [ofBits_inf] at h
  refine fine_of_ne ?_ ?_
  · rintro rfl; simp [Ideal.cmp] at h
  · rintro rfl; simp [Ideal.cmp] at h

/-- A row of 16 logits, less their largest, through the exponential, over the sum. -/
def soft (l : Fin 16 → EReal) (e : Fin 16) : EReal :=
  Ideal.div (Ideal.exp (l e - Finset.fold max (Ideal.ofBits FTy.f32 4286578688#32) l Finset.univ))
    (∑ x, Ideal.exp (l x - Finset.fold max (Ideal.ofBits FTy.f32 4286578688#32) l Finset.univ))

/-- The largest is at least the value its fold starts at. -/
theorem max_fold (v : EReal) (l : Fin 16 → EReal) : max v (Finset.fold max v l Finset.univ) = Finset.fold max v l Finset.univ :=
  max_eq_right (Finset.le_fold_max v |>.2 (Or.inl le_rfl))

/-- The kernel's logit: a row and its rounding error against the 16 weights, and against the 16 errors beside them, summed. -/
def logit2 (h : Fin 1024 → EReal) (w : Fin 1024 → Fin 32 → EReal) (e : Fin 16) : EReal :=
  (∑ k, h k * w k ⟨e.val, by omega⟩ + ∑ k, (h k - h k) * w k ⟨e.val, by omega⟩)
    + (∑ k, h k * w k ⟨16 + e.val, by omega⟩ + ∑ k, (h k - h k) * w k ⟨16 + e.val, by omega⟩)

/-- On finite rows and weights it is the plain logit: the errors are 0. -/
theorem logit2_eq (h : Fin 1024 → EReal) (w : Fin 1024 → Fin 32 → EReal) (v : Fin 1024 → Fin 16 → EReal)
    (h1 : ∀ k (e : Fin 16), w k ⟨e.val, by omega⟩ = v k e) (h2 : ∀ k (e : Fin 16), w k ⟨16 + e.val, by omega⟩ = v k e - v k e)
    (hh : ∀ k, Fine (h k)) (hv : ∀ k e, Fine (v k e)) (e : Fin 16) : logit2 h w e = ∑ k, h k * v k e := by
  unfold logit2
  simp only [h1, h2, fun k => (hh k).sub_self, fun k e => (hv k e).sub_self, zero_mul, mul_zero, Finset.sum_const_zero, add_zero]

end Cert.Rows

end
-- ==== Proof.Affinity.Body.lean ====
/-
  The merge kernel's block bodies over the extended reals, for its router output: each of its four row quarters is the softmax of
  its logits.
-/
module

public import proofs.«01_k».proof.Proof.Merge.Body
public import proofs.«01_k».proof.Proof.Affinity.Soft
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Kernel4Ideal.Affinity

open Cert.Kernel4Ideal Cert.Kernel4Ideal.Gen Cert.Rows
open Idealize.ShloMosaic Idealize.ShloMosaic.TcCoe Idealize.ShloMosaic.Tactic Idealize.SL.Sem
open scoped BigOperators

section Quarters
variable (o r ga gr : Vec Ideal S256x1024 .bf16) (x : Vec Ideal S256x1024 .f32) (wpa wpl wo : Vec Ideal S1024x1024 .bf16) (g : Vec Ideal S1x1024 .f32)

/-- A quarter's rows of the residual stream. -/
def hq (p : Fin 256) (n : Fin 1024) : EReal :=
  merge (fun i => o (ix2 p i)) (fun i => r (ix2 p i)) (fun i => ga (ix2 p i)) (fun i => gr (ix2 p i)) (fun i => x (ix2 p i))
    (fun i k => wpa (ix2 i k)) (fun i k => wpl (ix2 i k)) (fun i k => wo (ix2 i k)) n

theorem h0 (p : Fin 256) (n : Fin 1024) : k0_pay1 (F := Ideal) o wpa r wpl ga gr x wo (ix2 p n) = hq o r ga gr x wpa wpl wo p n := by
  unfold hq merge
  pointwise [k0_pay1]
theorem h1 (p : Fin 256) (n : Fin 1024) : k0_pay7 (F := Ideal) (k0_pay6 o wpa) r wpl ga gr x wo (ix2 p n) = hq o r ga gr x wpa wpl wo p n := by
  unfold hq merge
  pointwise [k0_pay7, k0_pay6]
theorem h2 (p : Fin 256) (n : Fin 1024) :
    k0_pay15 (F := Ideal) (k0_pay12 r wpl) (k0_pay13 o wpa ga) (k0_pay14 gr) x wo (ix2 p n) = hq o r ga gr x wpa wpl wo p n := by
  unfold hq merge
  pointwise [k0_pay15, k0_pay12, k0_pay13, k0_pay14]
theorem h3 (p : Fin 256) (n : Fin 1024) : k0_pay22 (F := Ideal) o wpa r wpl ga gr x wo (ix2 p n) = hq o r ga gr x wpa wpl wo p n := by
  unfold hq merge
  pointwise [k0_pay22]

theorem n0 (p : Fin 256) (n : Fin 1024) :
    k0_pay4 (F := Ideal) (k0_pay1 o wpa r wpl ga gr x wo) (k0_pay2 o wpa r wpl ga gr x wo) g (ix2 p n)
      = rms (hq o r ga gr x wpa wpl wo p) (fun i => g (ix2 0 i)) n := by
  unfold rms
  simp only [← h0]
  pointwise [k0_pay4, k0_pay3, k0_pay2]
theorem n1 (p : Fin 256) (n : Fin 1024) :
    k0_pay9 (F := Ideal) (k0_pay6 o wpa) r wpl ga gr x wo g (ix2 p n) = rms (hq o r ga gr x wpa wpl wo p) (fun i => g (ix2 0 i)) n := by
  unfold rms
  simp only [← h1]
  pointwise [k0_pay9, k0_pay8]
theorem n2 (p : Fin 256) (n : Fin 1024) :
    k0_pay17 (F := Ideal) (k0_pay12 r wpl) (k0_pay13 o wpa ga) (k0_pay14 gr) x wo g (ix2 p n)
      = rms (hq o r ga gr x wpa wpl wo p) (fun i => g (ix2 0 i)) n := by
  unfold rms
  simp only [← h2]
  pointwise [k0_pay17, k0_pay16]
theorem n3 (p : Fin 256) (n : Fin 1024) :
    k0_pay24 (F := Ideal) (k0_pay22 o wpa r wpl ga gr x wo) g (ix2 p n) = rms (hq o r ga gr x wpa wpl wo p) (fun i => g (ix2 0 i)) n := by
  unfold rms
  simp only [← h3]
  pointwise [k0_pay24, k0_pay23]

variable (w : Vec Ideal S1024x32 .bf16)

theorem a0 (u v : Vec Ideal S256x1024 .f32) (p : Fin 256) (e : Fin 16) :
    k0_pay5 (F := Ideal) u v g w w (ix2 p e) = soft (logit2 (fun k => k0_pay4 (F := Ideal) u v g (ix2 p k)) (fun k j => w (ix2 k j))) e := by
  unfold soft logit2
  pointwise [k0_pay5, k0_pay4]
theorem a1 (u : Vec Ideal S256x1024 .f32) (p : Fin 256) (e : Fin 16) :
    k0_pay11 (F := Ideal) (k0_pay9 u r wpl ga gr x wo g) (k0_pay10 u r wpl ga gr x wo g) w w (ix2 p e)
      = soft (logit2 (fun k => k0_pay9 (F := Ideal) u r wpl ga gr x wo g (ix2 p k)) (fun k j => w (ix2 k j))) e := by
  unfold soft logit2
  pointwise [k0_pay11, k0_pay9, k0_pay10]
theorem a2 (a b c : Vec Ideal S256x1024 .f32) (p : Fin 256) (e : Fin 16) :
    k0_pay21 (F := Ideal) (k0_pay19 a b c x wo g w w) (k0_pay20 a b c x wo g w w) (ix2 p e)
      = soft (logit2 (fun k => k0_pay17 (F := Ideal) a b c x wo g (ix2 p k)) (fun k j => w (ix2 k j))) e := by
  unfold soft logit2
  pointwise [k0_pay21, k0_pay19, k0_pay20, k0_pay18, k0_pay17]
theorem a3 (u : Vec Ideal S256x1024 .f32) (p : Fin 256) (e : Fin 16) :
    k0_pay25 (F := Ideal) u g w w (ix2 p e) = soft (logit2 (fun k => k0_pay24 (F := Ideal) u g (ix2 p k)) (fun k j => w (ix2 k j))) e := by
  unfold soft logit2
  pointwise [k0_pay25, k0_pay24]
end Quarters

section Blocks
variable (x0 x1 x2 x3 : Vec Ideal S1024x1024 .bf16) (x4 : Vec Ideal S1024x1024 .f32) (x5 x6 x7 : Vec Ideal S1024x1024 .bf16)
  (x8 : Vec Ideal S1x1024 .f32) (x9 : Vec Ideal S1024x32 .bf16)

/-- A block's rows of the residual stream. -/
def hb (p n : Fin 1024) : EReal :=
  merge (fun i => x0 (ix2 p i)) (fun i => x1 (ix2 p i)) (fun i => x2 (ix2 p i)) (fun i => x3 (ix2 p i)) (fun i => x4 (ix2 p i))
    (fun i k => x5 (ix2 i k)) (fun i k => x6 (ix2 i k)) (fun i k => x7 (ix2 i k)) n

theorem ld_rows {e : EltTy} (X : S1024x1024.Idx → Elt Ideal e) (q : Nat) (inb) (p : Fin 256) (P : Fin 1024) (h : P.val = q + p.val) (k : Fin 1024) :
    View.ld X (Rect.unit (s := S1024x1024) ![q, 0] S256x1024.size inb) (ix2 p k) = X (ix2 P k) :=
  View.ld_unit_apply_of X _ _ inb (ix2 p k) (ix2 P k) fun a => match a with
    | ⟨0, _⟩ => h
    | ⟨1, _⟩ => (Nat.zero_add _).symm

theorem ld_all (X : Vec Ideal S1024x1024 .bf16) : View.ld X r0_1 = X :=
  View.ld_unit_lit inb_S1024x1024_S1024x1024_0_0 X (by decide)
theorem ld_gain (X : Vec Ideal S1x1024 .f32) : View.ld X r0_2 = X :=
  View.ld_unit_lit inb_S1x1024_S1x1024_0_0 X (by decide)

theorem hq_rows (q : Nat) (inb) (p : Fin 256) (P : Fin 1024) (h : P.val = q + p.val) :
    hq (View.ld x0 (Rect.unit (s := S1024x1024) ![q, 0] S256x1024.size inb)) (View.ld x1 (Rect.unit (s := S1024x1024) ![q, 0] S256x1024.size inb))
      (View.ld x2 (Rect.unit (s := S1024x1024) ![q, 0] S256x1024.size inb)) (View.ld x3 (Rect.unit (s := S1024x1024) ![q, 0] S256x1024.size inb))
      (View.ld x4 (Rect.unit (s := S1024x1024) ![q, 0] S256x1024.size inb)) (View.ld x5 r0_1) (View.ld x6 r0_1) (View.ld x7 r0_1) p
      = hb x0 x1 x2 x3 x4 x5 x6 x7 P := by
  funext n
  exact merge_congr (ld_rows x0 q inb p P h) (ld_rows x1 q inb p P h) (ld_rows x2 q inb p P h) (ld_rows x3 q inb p P h) (ld_rows x4 q inb p P h)
    (fun i k => congrFun (ld_all x5) (ix2 i k)) (fun i k => congrFun (ld_all x6) (ix2 i k)) (fun i k => congrFun (ld_all x7) (ix2 i k)) n

theorem rms_rows (q : Nat) (inb) (p : Fin 256) (P : Fin 1024) (h : P.val = q + p.val) (n : Fin 1024) :
    rms (hq (View.ld x0 (Rect.unit (s := S1024x1024) ![q, 0] S256x1024.size inb)) (View.ld x1 (Rect.unit (s := S1024x1024) ![q, 0] S256x1024.size inb))
      (View.ld x2 (Rect.unit (s := S1024x1024) ![q, 0] S256x1024.size inb)) (View.ld x3 (Rect.unit (s := S1024x1024) ![q, 0] S256x1024.size inb))
      (View.ld x4 (Rect.unit (s := S1024x1024) ![q, 0] S256x1024.size inb)) (View.ld x5 r0_1) (View.ld x6 r0_1) (View.ld x7 r0_1) p)
      (fun i => View.ld x8 r0_2 (ix2 0 i)) n = rms (hb x0 x1 x2 x3 x4 x5 x6 x7 P) (fun i => x8 (ix2 0 i)) n := by
  rw [hq_rows x0 x1 x2 x3 x4 x5 x6 x7 q inb p P h]
  exact congrArg (fun f => rms _ f n) (funext fun i => congrFun (ld_gain x8) (ix2 0 i))

theorem ld_router (X : Vec Ideal S1024x32 .bf16) : View.ld X r0_3 = X :=
  View.ld_unit_lit inb_S1024x32_S1024x32_0_0 X (by decide)

theorem soft_congr {h h' : Fin 1024 → EReal} {w w' : Fin 1024 → Fin 32 → EReal} (h0 : ∀ k, h k = h' k) (h1 : ∀ k j, w k j = w' k j) (e : Fin 16) :
    soft (logit2 h w) e = soft (logit2 h' w') e := by
  obtain rfl := funext h0; obtain rfl := funext fun k => funext (h1 k)
  rfl

theorem out12_apply (P : Fin 1024) (e : Fin 16) :
    out0_12 x0 x1 x2 x3 x4 x5 x6 x7 x8 x9 (ix2 P e)
      = soft (logit2 (rms (hb x0 x1 x2 x3 x4 x5 x6 x7 P) (fun i => x8 (ix2 0 i))) (fun k j => x9 (ix2 k j))) e := by
  have hw : ∀ k j, View.ld x9 r0_3 (ix2 k j) = x9 (ix2 k j) := fun k j => congrFun (ld_router x9) (ix2 k j)
  canon_tiles y hy
  all_goals
    obtain ⟨p, k, rfl⟩ : ∃ (p : Fin 256) (k : Fin 16), y = ix2 p k := ⟨y 0, y 1, by
      funext a; match a with | ⟨0, _⟩ => rfl | ⟨1, _⟩ => rfl⟩
    obtain rfl : e = k := Fin.ext hy1
  case piece0 =>
    exact (a3 _ _ _ p e).trans (soft_congr (fun n => (n3 _ _ _ _ _ _ _ _ _ p n).trans (rms_rows x0 x1 x2 x3 x4 x5 x6 x7 x8 768 inb_S1024x1024_S256x1024_768_0 p P hy0 n)) hw e)
  case piece1 =>
    exact (a2 _ _ _ _ _ _ _ p e).trans (soft_congr (fun n => (n2 _ _ _ _ _ _ _ _ _ p n).trans (rms_rows x0 x1 x2 x3 x4 x5 x6 x7 x8 512 inb_S1024x1024_S256x1024_512_0 p P hy0 n)) hw e)
  case piece2 =>
    exact (a1 _ _ _ _ _ _ _ _ _ p e).trans (soft_congr (fun n => (n1 _ _ _ _ _ _ _ _ _ p n).trans (rms_rows x0 x1 x2 x3 x4 x5 x6 x7 x8 256 inb_S1024x1024_S256x1024_256_0 p P hy0 n)) hw e)
  case piece3 =>
    exact (a0 _ _ _ _ p e).trans (soft_congr (fun n => (n0 _ _ _ _ _ _ _ _ _ p n).trans (rms_rows x0 x1 x2 x3 x4 x5 x6 x7 x8 0 inb_S1024x1024_S256x1024_0_0 p P (hy0.trans (Nat.zero_add _).symm) n)) hw e)

end Blocks

end Cert.Kernel4Ideal.Affinity
end
-- ==== Proof.Affinity.Final.lean ====
/-
  The merge call's third result array over the extended reals: each token's softmax over its 16 router logits.
-/
module

public import proofs.«01_k».proof.Proof.Affinity.Body
public import proofs.«01_k».proof.Proof.Merge.Final
public import Idealize.ShloMosaic.Lib.Claim

@[expose] public section

set_option maxRecDepth 16384

noncomputable section

namespace Cert.Kernel4Ideal.Affinity

open Cert.Kernel4Ideal Cert.Kernel4Ideal.Gen Cert.Rows
open Idealize.ShloMosaic Idealize.ShloMosaic.TcCoe Idealize.ShloMosaic.Tactic Idealize.SL.Sem
open Idealize.ShloMosaic.Pipeline (Dat Cfg Window)
open scoped BigOperators

open Cert.Kernel3Ideal.Merge (hRow)

/-- Each token's affinities: the softmax of its normed row against the router's weights. -/
def affAll (A0 A1 : FVec Ideal S32768x1024 .bf16) (A2 : FVec Ideal S32768x7168 .bf16) (A3 : FVec Ideal S16x2048x1024 .f32)
    (A4 A5 A6 : FVec Ideal S1024x1024 .f32) (A7 : FVec Ideal S1024 .f32) (A8 : FVec Ideal S1024x16 .f32) : FVec Ideal S32768x16 .f32 := fun j =>
  soft (fun e => ∑ k, rms (hRow A0 A1 A2 A3 A4 A5 A6 (j 0)) (fun i => A7 (ix1 i)) k * A8 (ix2 k e)) (j 1)

/-- The router's weights beside their rounding errors. -/
def wr2 (A : FVec Ideal S1024x16 .f32) : FVec Ideal S1024x32 .bf16 :=
  concatenate S1024x32 1 [⟨S1024x16, truncf (F := Ideal) .bf16 A bitsLt_bf16_f32⟩,
    ⟨S1024x16, truncf (F := Ideal) .bf16 (subf A (extf .f32 (truncf (F := Ideal) .bf16 A bitsLt_bf16_f32) bitsLt_bf16_f32)) bitsLt_bf16_f32⟩]
    concatenates_S1024x16_S1024x16_S1024x32_d1
theorem wr2_lo (A : FVec Ideal S1024x16 .f32) (k : Fin 1024) (e : Fin 16) : wr2 A (ix2 k ⟨e.val, by omega⟩) = A (ix2 k e) := by
  pointwise [wr2]
theorem wr2_hi (A : FVec Ideal S1024x16 .f32) (k : Fin 1024) (e : Fin 16) :
    wr2 A (ix2 k ⟨16 + e.val, by omega⟩) = A (ix2 k e) - A (ix2 k e) := by
  pointwise [wr2]

theorem tokens_apply (A : FVec Ideal S16x2048x1024 .f32) (b : Fin 32768) (k : Fin 1024) :
    shapeCast S32768x1024 A shapeCasts_S16x2048x1024_S32768x1024 (ix2 b k)
      = A (ix3 ⟨b.val / 2048, Nat.div_lt_of_lt_mul b.isLt⟩ ⟨b.val % 2048, Nat.mod_lt _ (by decide)⟩ k) := by
  pointwise
theorem gain_apply (A : FVec Ideal S1024 .f32) (k : Fin 1024) : broadcastInDim S1x1024 ![1] bcast_S1024_S1x1024_1 A (ix2 0 k) = A (ix1 k) := by
  pointwise

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 5] := (by decide +kernel : ∀ t : Fin grid0.N, _)
theorem index3 : ∀ t : Fin cfg0.N, win0_3.index t = ![t.val, 6] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index12 : ∀ t : Fin cfg0.N, win0_12.index t = ![t.val, 0] := (by decide +kernel : ∀ t : Fin grid0.N, _)

theorem V_main_arg0 (c : Dev nD) : V m c main_arg0 = m ((c : Thread nD τ).loc main_arg0) := by
  entry_read; rfl
theorem V_main_arg1 (c : Dev nD) : V m c main_arg1 = m ((c : Thread nD τ).loc main_arg1) := by
  entry_read; rfl
theorem V_main_arg2 (c : Dev nD) : V m c main_arg2 = m ((c : Thread nD τ).loc main_arg2) := by
  entry_read; rfl
theorem V_main_v5 (c : Dev nD) : V m c main_v5 = shapeCast S32768x1024 (m ((c : Thread nD τ).loc main_arg3)) shapeCasts_S16x2048x1024_S32768x1024 := by
  entry_read; rfl
theorem V_main_v6 (c : Dev nD) : V m c main_v6 = truncf (F := Ideal) FTy.bf16 (m ((c : Thread nD τ).loc main_arg4)) bitsLt_bf16_f32 := by
  entry_read; rfl
theorem V_main_v7 (c : Dev nD) : V m c main_v7 = truncf (F := Ideal) FTy.bf16 (m ((c : Thread nD τ).loc main_arg5)) bitsLt_bf16_f32 := by
  entry_read; rfl
theorem V_main_v8 (c : Dev nD) : V m c main_v8 = truncf (F := Ideal) FTy.bf16 (m ((c : Thread nD τ).loc main_arg6)) bitsLt_bf16_f32 := by
  entry_read; rfl
theorem V_main_v9 (c : Dev nD) : V m c main_v9 = broadcastInDim S1x1024 ![1] bcast_S1024_S1x1024_1 (m ((c : Thread nD τ).loc main_arg7)) := by
  entry_read; rfl

theorem V_main_v4 (c : Dev nD) : V m c main_v4 = wr2 (m ((c : Thread nD τ).loc main_arg8)) := by
  entry_read; rfl

theorem blk0_at (c : Dev nD) (t : Fin cfg0.N) (r : Fin 1024) (b : Fin 32768) (hb : b.val = t.val * 1024 + r.val) (k : Fin 1024) :
    iblk m c 0 t (ix2 r k) = m ((c : Thread nD τ).loc main_arg0) (ix2 b k) := by
  have h : iblk m c 0 t (ix2 r k) = V m c main_arg0 (ix2 b k) := by
    blk_simp [iblk]
    refine congrArg (V m c main_arg0) ?_
    funext a; apply Fin.ext
    match a with
    | ⟨0, _⟩ => show (((cfg0.win 0).blk t).view.emb (ix2 r k) 0).val = b.val; blk_simp [index0]; exact hb.symm
    | ⟨1, _⟩ => show (((cfg0.win 0).blk t).view.emb (ix2 r k) 1).val = k.val; blk_simp [index0]
  rw [h, V_main_arg0]
theorem blk1_at (c : Dev nD) (t : Fin cfg0.N) (r : Fin 1024) (b : Fin 32768) (hb : b.val = t.val * 1024 + r.val) (k : Fin 1024) :
    iblk m c 1 t (ix2 r k) = m ((c : Thread nD τ).loc main_arg1) (ix2 b k) := by
  have h : iblk m c 1 t (ix2 r k) = V m c main_arg1 (ix2 b k) := by
    blk_simp [iblk]
    refine congrArg (V m c main_arg1) ?_
    funext a; apply Fin.ext
    match a with
    | ⟨0, _⟩ => show (((cfg0.win 1).blk t).view.emb (ix2 r k) 0).val = b.val; blk_simp [index1]; exact hb.symm
    | ⟨1, _⟩ => show (((cfg0.win 1).blk t).view.emb (ix2 r k) 1).val = k.val; blk_simp [index1]
  rw [h, V_main_arg1]
theorem blk2_at (c : Dev nD) (t : Fin cfg0.N) (r : Fin 1024) (b : Fin 32768) (hb : b.val = t.val * 1024 + r.val) (k : Fin 1024) :
    iblk m c 2 t (ix2 r k) = m ((c : Thread nD τ).loc main_arg2) (ix2 b ⟨5120 + k.val, by omega⟩) := by
  have h : iblk m c 2 t (ix2 r k) = V m c main_arg2 (ix2 b ⟨5120 + k.val, by omega⟩) := by
    blk_simp [iblk]
    refine congrArg (V m c main_arg2) ?_
    funext a; apply Fin.ext
    match a with
    | ⟨0, _⟩ => show (((cfg0.win 2).blk t).view.emb (ix2 r k) 0).val = b.val; blk_simp [index2]; exact hb.symm
    | ⟨1, _⟩ => show (((cfg0.win 2).blk t).view.emb (ix2 r k) 1).val = 5120 + k.val; blk_simp [index2]
  rw [h, V_main_arg2]
theorem blk3_at (c : Dev nD) (t : Fin cfg0.N) (r : Fin 1024) (b : Fin 32768) (hb : b.val = t.val * 1024 + r.val) (k : Fin 1024) :
    iblk m c 3 t (ix2 r k) = m ((c : Thread nD τ).loc main_arg2) (ix2 b ⟨6144 + k.val, by omega⟩) := by
  have h : iblk m c 3 t (ix2 r k) = V m c main_arg2 (ix2 b ⟨6144 + k.val, by omega⟩) := by
    blk_simp [iblk]
    refine congrArg (V m c main_arg2) ?_
    funext a; apply Fin.ext
    match a with
    | ⟨0, _⟩ => show (((cfg0.win 3).blk t).view.emb (ix2 r k) 0).val = b.val; blk_simp [index3]; exact hb.symm
    | ⟨1, _⟩ => show (((cfg0.win 3).blk t).view.emb (ix2 r k) 1).val = 6144 + k.val; blk_simp [index3]
  rw [h, V_main_arg2]
theorem blk4_at (c : Dev nD) (t : Fin cfg0.N) (r : Fin 1024) (b : Fin 32768) (hb : b.val = t.val * 1024 + r.val) (k : Fin 1024) :
    iblk m c 4 t (ix2 r k) = m ((c : Thread nD τ).loc main_arg3) (ix3 ⟨b.val / 2048, Nat.div_lt_of_lt_mul b.isLt⟩ ⟨b.val % 2048, Nat.mod_lt _ (by decide)⟩ k) := by
  have h : iblk m c 4 t (ix2 r k) = V m c main_v5 (ix2 b k) := by
    blk_simp [iblk]
    refine congrArg (V m c main_v5) ?_
    funext a; apply Fin.ext
    match a with
    | ⟨0, _⟩ => show (((cfg0.win 4).blk t).view.emb (ix2 r k) 0).val = b.val; blk_simp [index4]; exact hb.symm
    | ⟨1, _⟩ => show (((cfg0.win 4).blk t).view.emb (ix2 r k) 1).val = k.val; blk_simp [index4]
  rw [h, V_main_v5]
  exact tokens_apply _ b k
theorem blk5_at (c : Dev nD) (t : Fin cfg0.N) (i k : Fin 1024) :
    iblk m c 5 t (ix2 i k) = m ((c : Thread nD τ).loc main_arg4) (ix2 i k) := by
  have h : iblk m c 5 t (ix2 i k) = V m c main_v6 (ix2 i k) := by
    blk_simp [iblk]
    refine congrArg (V m c main_v6) ?_
    funext a; apply Fin.ext
    match a with
    | ⟨0, _⟩ => show (((cfg0.win 5).blk t).view.emb (ix2 i k) 0).val = i.val; blk_simp [index5]
    | ⟨1, _⟩ => show (((cfg0.win 5).blk t).view.emb (ix2 i k) 1).val = k.val; blk_simp [index5]
  rw [h, V_main_v6]
  rfl
theorem blk6_at (c : Dev nD) (t : Fin cfg0.N) (i k : Fin 1024) :
    iblk m c 6 t (ix2 i k) = m ((c : Thread nD τ).loc main_arg5) (ix2 i k) := by
  have h : iblk m c 6 t (ix2 i k) = V m c main_v7 (ix2 i k) := by
    blk_simp [iblk]
    refine congrArg (V m c main_v7) ?_
    funext a; apply Fin.ext
    match a with
    | ⟨0, _⟩ => show (((cfg0.win 6).blk t).view.emb (ix2 i k) 0).val = i.val; blk_simp [index6]
    | ⟨1, _⟩ => show (((cfg0.win 6).blk t).view.emb (ix2 i k) 1).val = k.val; blk_simp [index6]
  rw [h, V_main_v7]
  rfl
theorem blk7_at (c : Dev nD) (t : Fin cfg0.N) (i k : Fin 1024) :
    iblk m c 7 t (ix2 i k) = m ((c : Thread nD τ).loc main_arg6) (ix2 i k) := by
  have h : iblk m c 7 t (ix2 i k) = V m c main_v8 (ix2 i k) := by
    blk_simp [iblk]
    refine congrArg (V m c main_v8) ?_
    funext a; apply Fin.ext
    match a with
    | ⟨0, _⟩ => show (((cfg0.win 7).blk t).view.emb (ix2 i k) 0).val = i.val; blk_simp [index7]
    | ⟨1, _⟩ => show (((cfg0.win 7).blk t).view.emb (ix2 i k) 1).val = k.val; blk_simp [index7]
  rw [h, V_main_v8]
  rfl
theorem blk8_at (c : Dev nD) (t : Fin cfg0.N) (k : Fin 1024) :
    iblk m c 8 t (ix2 0 k) = m ((c : Thread nD τ).loc main_arg7) (ix1 k) := by
  have h : iblk m c 8 t (ix2 0 k) = V m c main_v9 (ix2 0 k) := by
    blk_simp [iblk]
    refine congrArg (V m c main_v9) ?_
    funext a; apply Fin.ext
    match a with
    | ⟨0, _⟩ => show (((cfg0.win 8).blk t).view.emb (ix2 0 k) 0).val = 0; blk_simp [index8]; rfl
    | ⟨1, _⟩ => show (((cfg0.win 8).blk t).view.emb (ix2 0 k) 1).val = k.val; blk_simp [index8]
  rw [h, V_main_v9]
  exact gain_apply _ k
theorem blk9_at (c : Dev nD) (t : Fin cfg0.N) (i : Fin 1024) (k : Fin 32) :
    iblk m c 9 t (ix2 i k) = wr2 (m ((c : Thread nD τ).loc main_arg8)) (ix2 i k) := by
  have h : iblk m c 9 t (ix2 i k) = V m c main_v4 (ix2 i k) := by
    blk_simp [iblk]
    refine congrArg (V m c main_v4) ?_
    funext a; apply Fin.ext
    match a with
    | ⟨0, _⟩ => show (((cfg0.win 9).blk t).view.emb (ix2 i k) 0).val = i.val; blk_simp [index9]
    | ⟨1, _⟩ => show (((cfg0.win 9).blk t).view.emb (ix2 i k) 1).val = k.val; blk_simp [index9]
  rw [h, V_main_v4]
theorem emb12_at (t : Fin cfg0.N) (r : Fin 1024) (b : Fin 32768) (hb : b.val = t.val * 1024 + r.val) (k : Fin 16) :
    ((cfg0.win 12).blk t).view.emb (ix2 r k) = ix2 b k := by
  funext a; apply Fin.ext
  match a with
  | ⟨0, _⟩ => show (((cfg0.win 12).blk t).view.emb (ix2 r k) 0).val = b.val; blk_simp [index12]; exact hb.symm
  | ⟨1, _⟩ => show (((cfg0.win 12).blk t).view.emb (ix2 r k) 1).val = k.val; blk_simp [index12]

theorem hb_at (c : Dev nD) (t : Fin cfg0.N) (r : Fin 1024) (b : Fin 32768) (hb' : b.val = t.val * 1024 + r.val) :
    hb (iblk m c 0 t) (iblk m c 1 t) (iblk m c 2 t) (iblk m c 3 t) (iblk m c 4 t) (iblk m c 5 t) (iblk m c 6 t) (iblk m c 7 t) r
      = hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b := by
  funext n
  exact merge_congr (blk0_at m c t r b hb') (blk1_at m c t r b hb') (blk2_at m c t r b hb') (blk3_at m c t r b hb') (blk4_at m c t r b hb')
    (blk5_at m c t) (blk6_at m c t) (blk7_at m c t) n

theorem logits_at (c : Dev nD) (t : Fin cfg0.N) (r : Fin 1024) (b : Fin 32768) (hb' : b.val = t.val * 1024 + r.val)
    (hg : ∀ i, Fine (m ((c : Thread nD τ).loc main_arg7) (ix1 i))) (hw : ∀ k e, Fine (m ((c : Thread nD τ).loc main_arg8) (ix2 k e))) (e : Fin 16) :
    logit2 (rms (hb (iblk m c 0 t) (iblk m c 1 t) (iblk m c 2 t) (iblk m c 3 t) (iblk m c 4 t) (iblk m c 5 t) (iblk m c 6 t) (iblk m c 7 t) r)
        (fun i => iblk m c 8 t (ix2 0 i))) (fun k j => iblk m c 9 t (ix2 k j)) e
      = ∑ k, rms (hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b) (fun i => m ((c : Thread nD τ).loc main_arg7) (ix1 i)) k * m ((c : Thread nD τ).loc main_arg8) (ix2 k e) := by
  rw [hb_at m c t r b hb', show (fun i => iblk m c 8 t (ix2 0 i)) = fun i => m ((c : Thread nD τ).loc main_arg7) (ix1 i) from funext (blk8_at m c t)]
  exact logit2_eq _ _ (fun k e => m ((c : Thread nD τ).loc main_arg8) (ix2 k e)) (fun k e => (blk9_at m c t k _).trans (wr2_lo _ k e))
    (fun k e => (blk9_at m c t k _).trans (wr2_hi _ k e)) (rms_fine _ _ hg) hw e

theorem final12 (c : Dev nD) (hg : ∀ i, Fine (m ((c : Thread nD τ).loc main_arg7) (ix1 i))) (hw : ∀ k e, Fine (m ((c : Thread nD τ).loc main_arg8) (ix2 k e))) :
    (dats m 0 c).arrAt 12 cfg0.N = affAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  obtain ⟨r, n, rfl⟩ : ∃ (r : Fin 1024) (n : Fin 16), y = ix2 r n := ⟨y 0, y 1, by
    funext a; match a with | ⟨0, _⟩ => rfl | ⟨1, _⟩ => rfl⟩
  have ht : t.val < 32 := lt_of_lt_of_eq t.isLt N_0
  obtain ⟨b, hb'⟩ : ∃ b : Fin 32768, b.val = t.val * 1024 + r.val := ⟨⟨t.val * 1024 + r.val, by omega⟩, rfl⟩
  refine (out12_apply _ _ _ _ _ _ _ _ _ _ r n).trans ?_
  rw [emb12_at t r b hb' n]
  exact congrArg (fun l => soft l n) (funext (logits_at m c t r b hb' hg hw))

/-- The run's affinities and its arguments after it, when the gain and the router's weights are finite. -/
theorem value (hg : ∀ (c : Dev nD) i, Fine (m ((c : Thread nD τ).loc main_arg7) (ix1 i)))
    (hw : ∀ (c : Dev nD) k e, Fine (m ((c : Thread nD τ).loc main_arg8) (ix2 k e))) :
    θ_run defs (onTc (τ := τ) (main (F := Ideal))) ⟨m, fun _ => 0, ρ⟩ (fun r => ∀ c : Dev nD,
      r.2.mem ((c.tc : Thread nD τ).loc main_v10_2) = affAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2.2.1.trans (final12 m c (hg c) (hw c)), (h c).2.2.2⟩) (Cert.Kernel4Ideal.Value.run_blocks m ρ)

end Cert.Kernel4Ideal.Affinity
end
-- ==== Proof.Affinity.RefValue.lean ====
/-
  The router output's reference over the extended reals, entry by entry, and its precondition read back.
-/
module

public import proofs.«01_k».proof.Proof.Affinity.Final
public import proofs.«01_k».proof.Proof.Merge.RefValue
public import proofs.«01_k».proof.Proof.Gen.Reference4Ideal.Run
public import proofs.«01_k».proof.Pre_finite
public import Idealize.ShloMosaic.Lib.ReduceAll

@[expose] public section

set_option maxRecDepth 16384

noncomputable section

namespace Cert.Reference4Ideal.Affinity

open Cert.Reference4Ideal Cert.Reference4Ideal.Gen Cert.Rows
open Idealize.ShloMosaic Idealize.ShloMosaic.TcCoe Idealize.ShloMosaic.Tactic Idealize.SL.Sem
open scoped BigOperators

def hTerm (A0 A1 : FVec Ideal S32768x1024 .bf16) (A2 : FVec Ideal S32768x7168 .bf16) (A3 : FVec Ideal S16x2048x1024 .f32)
    (A4 A5 A6 : FVec Ideal S1024x1024 .f32) : FVec Ideal S32768x1024 .f32 :=
  addf (shapeCast S32768x1024 A3 shapeCasts_S16x2048x1024_S32768x1024) (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 5120] A2 slices_S32768x7168_S32768x1024_0_5120) bitsLt_bf16_f32))))) (Host.dotGeneral dot_S32768x1024_S1024x1024_S32768x1024_1_0_0_1_n_n none (extf .f32 A0 bitsLt_bf16_f32) A4)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 6144] A2 slices_S32768x7168_S32768x1024_0_6144) bitsLt_bf16_f32))))) (Host.dotGeneral dot_S32768x1024_S1024x1024_S32768x1024_1_0_0_1_n_n none (extf .f32 A1 bitsLt_bf16_f32) A5))) A6)

def hnTerm (H : FVec Ideal S32768x1024 .f32) (A7 : FVec Ideal S1024 .f32) : FVec Ideal S32768x1024 .f32 :=
  mulf (mulf H (broadcastInDim S32768x1024 ![0, 1] bcast_S32768x1_S32768x1024_0_1 (Host.rsqrt (addf (Host.divf (broadcastInDim S32768x1 ![0] bcast_S32768_S32768x1_0 (Host.reduceAdd (mulf H H) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 A7))

theorem hTerm_apply (A0 A1 : FVec Ideal S32768x1024 .bf16) (A2 : FVec Ideal S32768x7168 .bf16) (A3 : FVec Ideal S16x2048x1024 .f32)
    (A4 A5 A6 : FVec Ideal S1024x1024 .f32) (b : Fin 32768) (n : Fin 1024) :
    hTerm A0 A1 A2 A3 A4 A5 A6 (ix2 b n) = Cert.Kernel3Ideal.Merge.hRow A0 A1 A2 A3 A4 A5 A6 b n := by
  unfold Cert.Kernel3Ideal.Merge.hRow merge
  pointwise [hTerm]
  rfl

theorem hnTerm_apply (H : FVec Ideal S32768x1024 .f32) (A7 : FVec Ideal S1024 .f32) (b : Fin 32768) (n : Fin 1024) :
    hnTerm H A7 (ix2 b n) = rms (fun i => H (ix2 b i)) (fun i => A7 (ix1 i)) n := by
  unfold rms
  pointwise [hnTerm]

def affTerm (L : FVec Ideal S32768x16 .f32) : FVec Ideal S32768x16 .f32 :=
  Host.divf (Host.exp (subf L (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf L (constant S_ .f32 0xFF800000#32) reducesTo_S32768x16_S32768_d1 h_S_)))))) (broadcastInDim S32768x16 ![0, 1] bcast_S32768x1_S32768x16_0_1 (broadcastInDim S32768x1 ![0] bcast_S32768_S32768x1_0 (Host.reduceAdd (Host.exp (subf L (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf L (constant S_ .f32 0xFF800000#32) reducesTo_S32768x16_S32768_d1 h_S_)))))) (constant S_ .f32 0x00000000#32) reducesTo_S32768x16_S32768_d1 h_S_)))

theorem affTerm_apply (L : FVec Ideal S32768x16 .f32) (b : Fin 32768) (e : Fin 16) : affTerm L (ix2 b e) = soft (fun e => L (ix2 b e)) e := by
  have h : affTerm L (ix2 b e) = Ideal.div
      (Ideal.exp (L (ix2 b e) - max (Ideal.ofBits FTy.f32 4286578688#32) (Finset.fold max (Ideal.ofBits FTy.f32 4286578688#32) (fun x => L (ix2 b x)) Finset.univ)))
      (∑ e, Ideal.exp (L (ix2 b e) - max (Ideal.ofBits FTy.f32 4286578688#32) (Finset.fold max (Ideal.ofBits FTy.f32 4286578688#32) (fun x => L (ix2 b x)) Finset.univ))) := by
    pointwise [affTerm]
  rw [h, max_fold]
  rfl

def logitTerm (H : FVec Ideal S32768x1024 .f32) (A8 : FVec Ideal S1024x16 .f32) : FVec Ideal S32768x16 .f32 :=
  Host.dotGeneral dot_S32768x1024_S1024x16_S32768x16_1_0_0_1_n_n none H A8
theorem logitTerm_apply (H : FVec Ideal S32768x1024 .f32) (A8 : FVec Ideal S1024x16 .f32) (b : Fin 32768) (e : Fin 16) :
    logitTerm H A8 (ix2 b e) = ∑ k, H (ix2 b k) * A8 (ix2 k e) := by
  pointwise [logitTerm]

theorem affTerm_eq (A0 A1 : FVec Ideal S32768x1024 .bf16) (A2 : FVec Ideal S32768x7168 .bf16) (A3 : FVec Ideal S16x2048x1024 .f32)
    (A4 A5 A6 : FVec Ideal S1024x1024 .f32) (A7 : FVec Ideal S1024 .f32) (A8 : FVec Ideal S1024x16 .f32) :
    affTerm (logitTerm (hnTerm (hTerm A0 A1 A2 A3 A4 A5 A6) A7) A8) = Cert.Kernel4Ideal.Affinity.affAll A0 A1 A2 A3 A4 A5 A6 A7 A8 := by
  funext j
  obtain ⟨b, e, rfl⟩ : ∃ (b : Fin 32768) (e : Fin 16), j = ix2 b e := ⟨j 0, j 1, by
    funext a; match a with | ⟨0, _⟩ => rfl | ⟨1, _⟩ => rfl⟩
  refine (affTerm_apply _ b e).trans (congrArg (fun l => soft l e) (funext fun e => ?_))
  refine (logitTerm_apply _ A8 b e).trans (Finset.sum_congr rfl fun k _ => congrArg (· * A8 (ix2 k e)) ?_)
  refine (hnTerm_apply _ A7 b k).trans ?_
  exact congrArg (fun f => rms f _ k) (funext fun i => hTerm_apply A0 A1 A2 A3 A4 A5 A6 b i)

/-- The reference's run: its result is the affinities, and its arguments stay. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v50) = Cert.Kernel4Ideal.Affinity.affAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (affTerm_eq _ _ _ _ _ _ _ _ _), (h c).2⟩)
    (Cert.Reference4Ideal.Value.run (F := Ideal) m ρ)

end Cert.Reference4Ideal.Affinity

namespace Cert.Pre_finite

open Cert.Pre_finite Cert.Rows
open Idealize.ShloMosaic

/-- The precondition read back: the gain and the router's weights are finite. -/
theorem read [hFacts : Facts] (A0 A1 : FVec Ideal S32768x1024 .bf16) (A2 : FVec Ideal S32768x7168 .bf16) (A3 : FVec Ideal S16x2048x1024 .f32)
    (A4 A5 A6 : FVec Ideal S1024x1024 .f32) (A7 : FVec Ideal S1024 .f32) (A8 : FVec Ideal S1024x16 .f32)
    (h : fn (F := Ideal) A0 A1 A2 A3 A4 A5 A6 A7 A8 = fun _ => 1#1) : (∀ i, Fine (A7 (ix1 i))) ∧ ∀ k e, Fine (A8 (ix2 k e)) := by
  obtain ⟨h7, h8⟩ := IntOp.andi_eq_one.1 (congrFun h (Shape.Idx.first Facts.h_S_))
  haveI : Subsingleton S_.Idx := ⟨fun a b => funext fun d => d.elim0⟩
  exact ⟨fun i => fine_of_lt (Host.reduce_andi_all _ _ _ _ _ h7 (ix1 i)), fun k e => fine_of_lt (Host.reduce_andi_all _ _ _ _ _ h8 (ix2 k e))⟩

end Cert.Pre_finite

end
-- ==== Proof.lean ====
/- The expert feed-forward, the input projection and the merge: their frames and their values. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ffn.Frame
public import proofs.«01_k».proof.Proof.Ffn.Final
public import proofs.«01_k».proof.Proof.Ffn.RefValue
public import proofs.«01_k».proof.Proof.Proj.RefValue
public import proofs.«01_k».proof.Proof.Merge.RefValue
public import proofs.«01_k».proof.Proof.Affinity.RefValue
public import Idealize.ShloMosaic.Adequacy
public import Idealize.ShloMosaic.Init
public import Idealize.ShloMosaic.Lib.Quiescent

@[expose] public section

set_option maxRecDepth 65536

noncomputable section

namespace Cert.Proof

open Idealize.ShloMosaic Idealize.SL.Sem Cert.Kernel

/-! The two programs have one text, so the run over any float type gives both frames. -/
theorem defs₀_eq : (@Cert.Kernel.defs₀ Bits _ _) = (@Cert.KernelIdeal.defs₀ Bits _ _) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))
theorem defs_eq : (@Cert.Kernel.defs Bits _ _) = (@Cert.KernelIdeal.defs Bits _ _) := by
  unfold Cert.Kernel.defs Cert.KernelIdeal.defs
  exact congrArg (Pipeline.defs Cert.KernelIdeal.pcfgs) defs₀_eq
theorem frame_kernel : Cert.quiescent_Kernel := fun m ρ _ => by
  rw [defs_eq]
  exact Cert.KernelIdeal.Ffn.quiet (F := Bits) m ρ
theorem frame_kernelIdeal : Cert.quiescent_KernelIdeal := fun m ρ _ => Cert.KernelIdeal.Ffn.quiet (F := Ideal) m ρ

/-! The reference: its frame and its value from its one run. -/
theorem frame_referenceIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem ffnAll_eq (A0 : IVec Cert.KernelIdeal.S16x16x2048 32) (A1 : FVec Ideal Cert.KernelIdeal.S16x16x2048 .f32) (A2 : FVec Ideal Cert.KernelIdeal.S16x16x256x1024 .bf16)
    (A3 A4 : FVec Ideal Cert.KernelIdeal.S16x1024x2048 .f32) (A5 : FVec Ideal Cert.KernelIdeal.S16x2048x1024 .f32) :
    Cert.ReferenceIdeal.Ffn.refTerm A0 A1 A2 A3 A4 A5 = Cert.KernelIdeal.Ffn.ffnAll A0 A1 A2 A3 A4 A5 := by
  funext j
  obtain ⟨b, e, c, d, rfl⟩ : ∃ (b e : Fin 16) (c : Fin 256) (d : Fin 1024), j = ix4 b e c d := ⟨j 0, j 1, j 2, j 3, by
    funext a; match a with | ⟨0, _⟩ => rfl | ⟨1, _⟩ => rfl | ⟨2, _⟩ => rfl | ⟨3, _⟩ => rfl⟩
  exact Cert.ReferenceIdeal.Ffn.refTerm_apply A0 A1 A2 A3 A4 A5 b e c d

theorem algebraic : Cert.algebraic_KernelIdeal_ReferenceIdeal := fun m g m' g' _ hagree => by
  refine ⟨_, Cert.KernelIdeal.Ffn.value m g, ?_⟩
  refine (θ_run Cert.ReferenceIdeal.defs _ _).mono (fun _ h c => ⟨(h c).1.trans ?_, (h c).2⟩) (Cert.ReferenceIdeal.Value.run (F := Ideal) m' g')
  obtain ⟨h0, h1, h2, h3, h4, h5⟩ := hagree c
  rw [h0, h1, h2, h3, h4, h5]
  exact ffnAll_eq _ _ _ _ _ _

/-! The input projection. -/
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2Ideal : Cert.quiescent_Reference2Ideal := fun m ρ _ =>
  (θ_run Cert.Reference2Ideal.defs _ _).mono (fun r h => ⟨fun c => (h c).2, sem_eq_zero_of_no_sems rfl r.2⟩) (Cert.Reference2Ideal.Value.run (F := Ideal) m ρ)
theorem algebraic2 : Cert.algebraic_Kernel2Ideal_Reference2Ideal := fun m g m' g' _ hagree => by
  refine ⟨_, Cert.Kernel2Ideal.Proj.value m g, ?_⟩
  refine (θ_run Cert.Reference2Ideal.defs _ _).mono (fun _ h c => ⟨(h c).1.trans ?_, (h c).2⟩) (Cert.Reference2Ideal.Proj.value m' g')
  obtain ⟨h0, h1, h2⟩ := hagree c
  rw [h0, h1, h2]

/-! The merge of the mixers' branches. -/
theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r h => ⟨fun c => (h c).2.2, sem_eq_zero_of_no_sems rfl r.2⟩) (Cert.Reference3Ideal.Value.run (F := Ideal) m ρ)
theorem algebraic3 : Cert.algebraic_Kernel3Ideal_Reference3Ideal := fun m g m' g' _ hagree => by
  refine ⟨_, _, Cert.Kernel3Ideal.Merge.value m g, ?_⟩
  refine (θ_run Cert.Reference3Ideal.defs _ _).mono (fun _ h c => ⟨(h c).1.trans ?_, (h c).2.1.trans ?_, (h c).2.2⟩) (Cert.Reference3Ideal.Merge.value m' g')
  · obtain ⟨h0, h1, h2, h3, h4, h5, h6, h7, h8⟩ := hagree c
    rw [h0, h1, h2, h3, h4, h5, h6]
  · obtain ⟨h0, h1, h2, h3, h4, h5, h6, h7, h8⟩ := hagree c
    rw [h0, h1, h2, h3, h4, h5, h6, h7]

/-! The merge's router output, when the ffn norm's gain and the router's weights are finite. -/
theorem facts_finite : Cert.Pre_finite.Facts where
  bcast_S_S1024 := by decide
  reducesTo_S1024_S_d0 := by decide
  h_S_ := by decide
  bcast_S_S1024x16 := by decide
  reducesTo_S1024x16_S_d0_1 := by decide
theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_kernel4Ideal_finite : Cert.quiescent_Kernel4Ideal_pre_finite (hPre_finite := facts_finite) := fun m ρ _ => Cert.Kernel4Ideal.Gen.frame m ρ
theorem frame_reference4Ideal : Cert.quiescent_Reference4Ideal := fun m ρ _ =>
  (θ_run Cert.Reference4Ideal.defs _ _).mono (fun r h => ⟨fun c => (h c).2, sem_eq_zero_of_no_sems rfl r.2⟩) (Cert.Reference4Ideal.Value.run (F := Ideal) m ρ)
theorem frame_reference4Ideal_finite : Cert.quiescent_Reference4Ideal_pre_finite (hPre_finite := facts_finite) := fun m ρ _ =>
  frame_reference4Ideal m ρ trivial
theorem algebraic4 : Cert.algebraic_Kernel4Ideal_Reference4Ideal_pre_finite (hPre_finite := facts_finite) := fun m g m' g' hpre hagree => by
  refine ⟨_, Cert.Kernel4Ideal.Affinity.value m g (fun c => (Cert.Pre_finite.read (hFacts := facts_finite) _ _ _ _ _ _ _ _ _ (hpre c)).1)
    (fun c => (Cert.Pre_finite.read (hFacts := facts_finite) _ _ _ _ _ _ _ _ _ (hpre c)).2), ?_⟩
  refine (θ_run Cert.Reference4Ideal.defs _ _).mono (fun _ h c => ⟨(h c).1.trans ?_, (h c).2⟩) (Cert.Reference4Ideal.Affinity.value m' g')
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, facts_finite,
  frame_kernel, frame_kernelIdeal, frame_referenceIdeal, frame_kernel2, frame_kernel2Ideal, frame_reference2Ideal,
  frame_kernel3, frame_kernel3Ideal, frame_reference3Ideal,
  frame_kernel4, frame_kernel4Ideal, frame_kernel4Ideal_finite, frame_reference4Ideal, frame_reference4Ideal_finite,
  trivial, algebraic, trivial, algebraic2, trivial, algebraic3, trivial, algebraic4⟩

end Cert.Proof

end
